-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v23_0)) (v3 : (c : Dev Cert.KernelIdeal.nD) → Buf (Elt Ideal) ((c.tc : Thread Cert.KernelIdeal.nD Cert.KernelIdeal.τ).loc Cert.KernelIdeal.main_v23_1)) (v4 : (c : Dev Cert.KernelIdeal.nD) → Buf (Elt Ideal) ((c.tc : Thread Cert.KernelIdeal.nD Cert.KernelIdeal.τ).loc Cert.KernelIdeal.main_v23_2)) (v5 : (c : Dev Cert.KernelIdeal.nD) → Buf (Elt Ideal) ((c.tc : Thread Cert.KernelIdeal.nD Cert.KernelIdeal.τ).loc Cert.KernelIdeal.main_v23_3)) (v6 : (c : Dev Cert.KernelIdeal.nD) → Buf (Elt Ideal) ((c.tc : Thread Cert.KernelIdeal.nD Cert.KernelIdeal.τ).loc Cert.KernelIdeal.main_v46_0)) (v7 : (c : Dev Cert.KernelIdeal.nD) → Buf (Elt Ideal) ((c.tc : Thread Cert.KernelIdeal.nD Cert.KernelIdeal.τ).loc Cert.KernelIdeal.main_v46_1)) (v8 : (c : Dev Cert.KernelIdeal.nD) → Buf (Elt Ideal) ((c.tc : Thread Cert.KernelIdeal.nD Cert.KernelIdeal.τ).loc Cert.KernelIdeal.main_v42)) (v9 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v23_0) = v2 c
          ∧ r.2.mem ((c.tc : Thread Cert.KernelIdeal.nD Cert.KernelIdeal.τ).loc Cert.KernelIdeal.main_v23_1) = v3 c
          ∧ r.2.mem ((c.tc : Thread Cert.KernelIdeal.nD Cert.KernelIdeal.τ).loc Cert.KernelIdeal.main_v23_2) = v4 c
          ∧ r.2.mem ((c.tc : Thread Cert.KernelIdeal.nD Cert.KernelIdeal.τ).loc Cert.KernelIdeal.main_v23_3) = v5 c
          ∧ r.2.mem ((c.tc : Thread Cert.KernelIdeal.nD Cert.KernelIdeal.τ).loc Cert.KernelIdeal.main_v46_0) = v6 c
          ∧ r.2.mem ((c.tc : Thread Cert.KernelIdeal.nD Cert.KernelIdeal.τ).loc Cert.KernelIdeal.main_v46_1) = v7 c
          ∧ r.2.mem ((c.tc : Thread Cert.KernelIdeal.nD Cert.KernelIdeal.τ).loc Cert.KernelIdeal.main_v42) = v8 c
          ∧ r.2.mem ((c.tc : Thread Cert.KernelIdeal.nD Cert.KernelIdeal.τ).loc Cert.KernelIdeal.main_v27) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_v76) = v6 c
          ∧ r.2.mem ((c.tc : Thread Cert.ReferenceIdeal.nD Cert.ReferenceIdeal.τ).loc Cert.ReferenceIdeal.main_v77) = v7 c
          ∧ r.2.mem ((c.tc : Thread Cert.ReferenceIdeal.nD Cert.ReferenceIdeal.τ).loc Cert.ReferenceIdeal.main_v68) = v8 c
          ∧ r.2.mem ((c.tc : Thread Cert.ReferenceIdeal.nD Cert.ReferenceIdeal.τ).loc Cert.ReferenceIdeal.main_v53) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x4x3584x4096 : Shape := ⟨4, ![3, 4, 3584, 4096]⟩
abbrev S3x4 : Shape := ⟨2, ![3, 4]⟩
abbrev S3x4x3584x2880 : Shape := ⟨4, ![3, 4, 3584, 2880]⟩
abbrev S3x2880x4096 : Shape := ⟨3, ![3, 2880, 4096]⟩
abbrev S_ : Shape := ⟨0, ![]⟩
abbrev S3x16 : Shape := ⟨2, ![3, 16]⟩

class Facts : Prop where
  bcast_S_S3x4 : S_.BroadcastsInDim S3x4 (![] : Fin 0 → Fin S3x4.rank)

variable [Facts]

def fn {F : FTy → Type} [FloatOps F] (main_arg0 : FVec F S3x4x3584x4096 .fp8e4m3) (main_arg1 : FVec F S3x4 .f32) (main_arg2 : FVec F S3x4x3584x2880 .fp8e5m2) (main_arg3 : FVec F S3x4 .f32) (main_arg4 : FVec F S3x2880x4096 .f32) (main_arg5 : FVec F S3x2880x4096 .f32) (main_arg6 : FVec F S3x2880x4096 .f32) (main_arg7 : FVec F S3x2880x4096 .f32) (main_arg8 : IVec S_ 32) (main_arg9 : FVec F S_ .f32) (main_arg10 : FVec F S3x16 .f32) : IVec S3x4 1 × IVec S3x4 1 × IVec S_ 1 :=
  let main_cst : FVec F S_ .f32 := constant S_ .f32 0x00000000#32
  let main_v0 : FVec F S3x4 .f32 := broadcastInDim S3x4 ![] bcast_S_S3x4 main_cst
  let main_v1 : IVec S3x4 1 := cmpf .oge main_arg1 main_v0
  let main_cst_0 : FVec F S_ .f32 := constant S_ .f32 0x7F800000#32
  let main_v2 : FVec F S3x4 .f32 := broadcastInDim S3x4 ![] bcast_S_S3x4 main_cst_0
  let main_v3 : IVec S3x4 1 := cmpf .olt main_arg1 main_v2
  let main_v4 : IVec S3x4 1 := andi main_v1 main_v3
  let main_cst_1 : FVec F S_ .f32 := constant S_ .f32 0x00000000#32
  let main_v5 : FVec F S3x4 .f32 := broadcastInDim S3x4 ![] bcast_S_S3x4 main_cst_1
  let main_v6 : IVec S3x4 1 := cmpf .oge main_arg3 main_v5
  let main_cst_2 : FVec F S_ .f32 := constant S_ .f32 0x7F800000#32
  let main_v7 : FVec F S3x4 .f32 := broadcastInDim S3x4 ![] bcast_S_S3x4 main_cst_2
  let main_v8 : IVec S3x4 1 := cmpf .olt main_arg3 main_v7
  let main_v9 : IVec S3x4 1 := andi main_v6 main_v8
  let main_c : IVec S_ 32 := constantI S_ 32 0#32
  let main_v10 : IVec S_ 1 := cmpi .ne main_arg8 main_c
  (main_v4, main_v9, main_v10)
-- ==== Kernel.lean ====
abbrev S3x4x3584x4096 : Shape := ⟨4, ![3, 4, 3584, 4096]⟩
abbrev S3x4 : Shape := ⟨2, ![3, 4]⟩
abbrev S3x4x3584x2880 : Shape := ⟨4, ![3, 4, 3584, 2880]⟩
abbrev S3x2880x4096 : Shape := ⟨3, ![3, 2880, 4096]⟩
abbrev S_ : Shape := ⟨0, ![]⟩
abbrev S3x16 : Shape := ⟨2, ![3, 16]⟩
abbrev S3x8x8x128 : Shape := ⟨4, ![3, 8, 8, 128]⟩
abbrev S1x1x3584x512 : Shape := ⟨4, ![1, 1, 3584, 512]⟩
abbrev S1x1x3584x2880 : Shape := ⟨4, ![1, 1, 3584, 2880]⟩
abbrev S1x2880x512 : Shape := ⟨3, ![1, 2880, 512]⟩
abbrev S1x1x8x128 : Shape := ⟨4, ![1, 1, 8, 128]⟩
abbrev S3584x2880 : Shape := ⟨2, ![3584, 2880]⟩
abbrev S3584x512 : Shape := ⟨2, ![3584, 512]⟩
abbrev S2880x512 : Shape := ⟨2, ![2880, 512]⟩
abbrev S1x1 : Shape := ⟨2, ![1, 1]⟩
abbrev S360x8x512 : Shape := ⟨3, ![360, 8, 512]⟩
abbrev S8x512 : Shape := ⟨2, ![8, 512]⟩
abbrev S8x128 : Shape := ⟨2, ![8, 128]⟩
abbrev S1 : Shape := ⟨1, ![1]⟩
abbrev S3 : Shape := ⟨1, ![3]⟩
abbrev S3x32x8x128 : Shape := ⟨4, ![3, 32, 8, 128]⟩
abbrev S1x2880x128 : Shape := ⟨3, ![1, 2880, 128]⟩
abbrev S2880x128 : Shape := ⟨2, ![2880, 128]⟩
abbrev S360x8x128 : Shape := ⟨3, ![360, 8, 128]⟩
abbrev S3x1 : Shape := ⟨2, ![3, 1]⟩
abbrev S3x15 : Shape := ⟨2, ![3, 15]⟩
abbrev S3x4096x2880 : Shape := ⟨3, ![3, 4096, 2880]⟩
abbrev S1x128x2880 : Shape := ⟨3, ![1, 128, 2880]⟩
abbrev S128x2880 : Shape := ⟨2, ![128, 2880]⟩

abbrev nBuf : Space → Nat
  | .hbm => 84
  | .vmem => 34
  | .smem => 3
  | _ => 0

abbrev bufTy : (tb : Table) → Fin (tcTables nBuf tb) → BufTy
  | .hbm, ⟨0, _⟩ => ⟨S3x4x3584x4096, .fp8e4m3⟩
  | .hbm, ⟨1, _⟩ => ⟨S3x4, .f32⟩
  | .hbm, ⟨2, _⟩ => ⟨S3x4x3584x2880, .fp8e5m2⟩
  | .hbm, ⟨3, _⟩ => ⟨S3x4, .f32⟩
  | .hbm, ⟨4, _⟩ => ⟨S3x2880x4096, .f32⟩
  | .hbm, ⟨5, _⟩ => ⟨S3x2880x4096, .f32⟩
  | .hbm, ⟨6, _⟩ => ⟨S3x2880x4096, .f32⟩
  | .hbm, ⟨7, _⟩ => ⟨S3x2880x4096, .f32⟩
  | .hbm, ⟨8, _⟩ => ⟨S_, .i32⟩
  | .hbm, ⟨9, _⟩ => ⟨S_, .f32⟩
  | .hbm, ⟨10, _⟩ => ⟨S3x16, .f32⟩
  | .hbm, ⟨11, _⟩ => ⟨S3x4, .bf16⟩
  | .hbm, ⟨12, _⟩ => ⟨S3x4, .f32⟩
  | .hbm, ⟨13, _⟩ => ⟨S3x4, .bf16⟩
  | .hbm, ⟨14, _⟩ => ⟨S3x4, .f32⟩
  | .hbm, ⟨15, _⟩ => ⟨S3x4, .f32⟩
  | .hbm, ⟨16, _⟩ => ⟨S3x2880x4096, .f32⟩
  | .hbm, ⟨17, _⟩ => ⟨S3x8x8x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S3, .f32⟩
  | .hbm, ⟨44, _⟩ => ⟨S3x2880x4096, .f32⟩
  | .hbm, ⟨45, _⟩ => ⟨S3x2880x4096, .f32⟩
  | .hbm, ⟨46, _⟩ => ⟨S3x2880x4096, .f32⟩
  | .hbm, ⟨47, _⟩ => ⟨S3x2880x4096, .f32⟩
  | .hbm, ⟨48, _⟩ => ⟨S3x32x8x128, .f32⟩
  | .hbm, ⟨49, _⟩ => ⟨S_, .f32⟩
  | .hbm, ⟨50, _⟩ => ⟨S3, .f32⟩
  | .hbm, ⟨51, _⟩ => ⟨S3x1, .f32⟩
  | .hbm, ⟨52, _⟩ => ⟨S3x15, .f32⟩
  | .hbm, ⟨53, _⟩ => ⟨S3x16, .f32⟩
  | .hbm, ⟨54, _⟩ => ⟨S_, .f32⟩
  | .hbm, ⟨55, _⟩ => ⟨S3, .f32⟩
  | .hbm, ⟨56, _⟩ => ⟨S_, .f32⟩
  | .hbm, ⟨57, _⟩ => ⟨S3, .f32⟩
  | .hbm, ⟨58, _⟩ => ⟨S3, .f32⟩
  | .hbm, ⟨59, _⟩ => ⟨S3, .f32⟩
  | .hbm, ⟨60, _⟩ => ⟨S_, .f32⟩
  | .hbm, ⟨61, _⟩ => ⟨S_, .f32⟩
  | .hbm, ⟨62, _⟩ => ⟨S3, .f32⟩
  | .hbm, ⟨63, _⟩ => ⟨S3, .f32⟩
  | .hbm, ⟨64, _⟩ => ⟨S3, .f32⟩
  | .hbm, ⟨65, _⟩ => ⟨S_, .f32⟩
  | .hbm, ⟨66, _⟩ => ⟨S3, .f32⟩
  | .hbm, ⟨67, _⟩ => ⟨S3, .f32⟩
  | .hbm, ⟨68, _⟩ => ⟨S_, .f32⟩
  | .hbm, ⟨69, _⟩ => ⟨S3, .f32⟩
  | .hbm, ⟨70, _⟩ => ⟨S3, .i1⟩
  | .hbm, ⟨71, _⟩ => ⟨S_, .i32⟩
  | .hbm, ⟨72, _⟩ => ⟨S_, .f32⟩
  | .hbm, ⟨73, _⟩ => ⟨S3, .f32⟩
  | .hbm, ⟨74, _⟩ => ⟨S3, .f32⟩
  | .hbm, ⟨75, _⟩ => ⟨S_, .f32⟩
  | .hbm, ⟨76, _⟩ => ⟨S3, .f32⟩
  | .hbm, ⟨77, _⟩ => ⟨S3, .f32⟩
  | .hbm, ⟨78, _⟩ => ⟨S3, .f32⟩
  | .hbm, ⟨79, _⟩ => ⟨S_, .f32⟩
  | .hbm, ⟨80, _⟩ => ⟨S3, .f32⟩
  | .hbm, ⟨81, _⟩ => ⟨S3, .f32⟩
  | .hbm, ⟨82, _⟩ => ⟨S3x2880x4096, .fp8e4m3⟩
  | .hbm, ⟨83, _⟩ => ⟨S3x4096x2880, .fp8e4m3⟩
  | .local _ .vmem, ⟨0, _⟩ => ⟨S1x1x3584x512, .fp8e4m3⟩
  | .local _ .vmem, ⟨1, _⟩ => ⟨S1x1x3584x512, .fp8e4m3⟩
  | .local _ .vmem, ⟨2, _⟩ => ⟨S1x1x3584x2880, .fp8e5m2⟩
  | .local _ .vmem, ⟨3, _⟩ => ⟨S1x1x3584x2880, .fp8e5m2⟩
  | .local _ .vmem, ⟨4, _⟩ => ⟨S1x2880x512, .f32⟩
  | .local _ .vmem, ⟨5, _⟩ => ⟨S1x2880x512, .f32⟩
  | .local _ .vmem, ⟨6, _⟩ => ⟨S1x2880x512, .f32⟩
  | .local _ .vmem, ⟨7, _⟩ => ⟨S1x2880x512, .f32⟩
  | .local _ .vmem, ⟨8, _⟩ => ⟨S1x1x8x128, .f32⟩
  | .local _ .vmem, ⟨9, _⟩ => ⟨S1x1x8x128, .f32⟩
  | .local _ .vmem, ⟨10, _⟩ => ⟨S1x2880x128, .f32⟩
  | .local _ .vmem, ⟨11, _⟩ => ⟨S1x2880x128, .f32⟩
  | .local _ .vmem, ⟨12, _⟩ => ⟨S1x2880x128, .f32⟩
  | .local _ .vmem, ⟨13, _⟩ => ⟨S1x2880x128, .f32⟩
  | .local _ .vmem, ⟨14, _⟩ => ⟨S1x2880x128, .f32⟩
  | .local _ .vmem, ⟨15, _⟩ => ⟨S1x2880x128, .f32⟩
  | .local _ .vmem, ⟨16, _⟩ => ⟨S1x2880x128, .f32⟩
  | .local _ .vmem, ⟨17, _⟩ => ⟨S1x2880x128, .f32⟩
  | .local _ .vmem, ⟨18, _⟩ => ⟨S1x2880x128, .f32⟩
  | .local _ .vmem, ⟨19, _⟩ => ⟨S1x2880x128, .f32⟩
  | .local _ .vmem, ⟨20, _⟩ => ⟨S1x2880x128, .f32⟩
  | .local _ .vmem, ⟨21, _⟩ => ⟨S1x2880x128, .f32⟩
  | .local _ .vmem, ⟨22, _⟩ => ⟨S1x2880x128, .f32⟩
  | .local _ .vmem, ⟨23, _⟩ => ⟨S1x2880x128, .f32⟩
  | .local _ .vmem, ⟨24, _⟩ => ⟨S1x2880x128, .f32⟩
  | .local _ .vmem, ⟨25, _⟩ => ⟨S1x2880x128, .f32⟩
  | .local _ .vmem, ⟨26, _⟩ => ⟨S1x1x8x128, .f32⟩
  | .local _ .vmem, ⟨27, _⟩ => ⟨S1x1x8x128, .f32⟩
  | .local _ .vmem, ⟨28, _⟩ => ⟨S1x2880x128, .f32⟩
  | .local _ .vmem, ⟨29, _⟩ => ⟨S1x2880x128, .f32⟩
  | .local _ .vmem, ⟨30, _⟩ => ⟨S1x2880x128, .fp8e4m3⟩
  | .local _ .vmem, ⟨31, _⟩ => ⟨S1x2880x128, .fp8e4m3⟩
  | .local _ .vmem, ⟨32, _⟩ => ⟨S1x128x2880, .fp8e4m3⟩
  | .local _ .vmem, ⟨33, _⟩ => ⟨S1x128x2880, .fp8e4m3⟩
  | .local _ .smem, ⟨0, _⟩ => ⟨S3x4, .f32⟩
  | .local _ .smem, ⟨1, _⟩ => ⟨S3, .f32⟩
  | .local _ .smem, ⟨2, _⟩ => ⟨S3, .f32⟩
  | _, _ => ⟨S3x4x3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_v40 : Ref sig .tc := ⟨.hbm, 74, rfl⟩
abbrev main_cst_14 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_15 : Ref sig .tc := ⟨.hbm, 79, rfl⟩
abbrev main_v44 : Ref sig .tc := ⟨.hbm, 80, rfl⟩
abbrev main_v45 : Ref sig .tc := ⟨.hbm, 81, rfl⟩
abbrev main_v46_0 : Ref sig .tc := ⟨.hbm, 82, rfl⟩
abbrev main_v46_1 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36

abbrev nD : Nat := 1
abbrev τ : Topo := Topo.v7x

variable {F : FTy → Type} [FloatOps F]

abbrev grid0 : Pipeline.Grid := ⟨3, ![3, 8, 4], ![false, false, false]⟩

def k0_off1 (i : grid0.Coords) : Fin 2 → Nat :=
  let arg0 : BitVec 32 := BitVec.ofNat 32 (i 0).val
  let v6 : Index := Scalar.indexCast arg0
  let arg2 : BitVec 32 := BitVec.ofNat 32 (i 2).val
  let v7 : Index := Scalar.indexCast arg2
  ![v6.toNat, v7.toNat]
def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x3584x2880 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2880x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2880x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![3, 32], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2880x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2880x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2880x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2880x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2880x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2880x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2880x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x2880x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![3, 32], ![false, false]⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x2880x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2880x128 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x2880 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S3x4x3584x4096 : Shape := ⟨4, ![3, 4, 3584, 4096]⟩
abbrev S3x4 : Shape := ⟨2, ![3, 4]⟩
abbrev S3x4x3584x2880 : Shape := ⟨4, ![3, 4, 3584, 2880]⟩
abbrev S3x2880x4096 : Shape := ⟨3, ![3, 2880, 4096]⟩
abbrev S_ : Shape := ⟨0, ![]⟩
abbrev S3x16 : Shape := ⟨2, ![3, 16]⟩
abbrev S3x4x1x1 : Shape := ⟨4, ![3, 4, 1, 1]⟩
abbrev S3 : Shape := ⟨1, ![3]⟩
abbrev S3x1 : Shape := ⟨2, ![3, 1]⟩
abbrev S3x15 : Shape := ⟨2, ![3, 15]⟩
abbrev S3x1x1 : Shape := ⟨3, ![3, 1, 1]⟩
abbrev S3x4096x2880 : Shape := ⟨3, ![3, 4096, 2880]⟩

abbrev nBuf : Space → Nat
  | .hbm => 122
  | .vmem => 4
  | .smem => 0
  | _ => 0

abbrev bufTy : (tb : Table) → Fin (tcTables nBuf tb) → BufTy
  | .hbm, ⟨0, _⟩ => ⟨S3x4x3584x4096, .fp8e4m3⟩
  | .hbm, ⟨1, _⟩ => ⟨S3x4, .f32⟩
  | .hbm, ⟨2, _⟩ => ⟨S3x4x3584x2880, .fp8e5m2⟩
  | .hbm, ⟨3, _⟩ => ⟨S3x4, .f32⟩
  | .hbm, ⟨4, _⟩ => ⟨S3x2880x4096, .f32⟩
  | .hbm, ⟨5, _⟩ => ⟨S3x2880x4096, .f32⟩
  | .hbm, ⟨6, _⟩ => ⟨S3x2880x4096, .f32⟩
  | .hbm, ⟨7, _⟩ => ⟨S3x2880x4096, .f32⟩
  | .hbm, ⟨8, _⟩ => ⟨S_, .i32⟩
  | .hbm, ⟨9, _⟩ => ⟨S_, .f32⟩
  | .hbm, ⟨10, _⟩ => ⟨S3x16, .f32⟩
  | .hbm, ⟨11, _⟩ => ⟨S3x4x3584x4096, .bf16⟩
  | .hbm, ⟨12, _⟩ => ⟨S3x4x3584x2880, .bf16⟩
  | .hbm, ⟨13, _⟩ => ⟨S3x4, .bf16⟩
  | .hbm, ⟨14, _⟩ => ⟨S3x4x1x1, .bf16⟩
  | .hbm, ⟨15, _⟩ => ⟨S3x4x3584x4096, .bf16⟩
  | .hbm, ⟨16, _⟩ => ⟨S3x4x3584x4096, .bf16⟩
  | .hbm, ⟨17, _⟩ => ⟨S3x4, .bf16⟩
  | .hbm, ⟨18, _⟩ => ⟨S3x4x1x1, .bf16⟩
  | .hbm, ⟨19, _⟩ => ⟨S3x4x3584x2880, .bf16⟩
  | .hbm, ⟨20, _⟩ => ⟨S3x4x3584x2880, .bf16⟩
  | .hbm, ⟨21, _⟩ => ⟨S3x2880x4096, .f32⟩
  | .hbm, ⟨22, _⟩ => ⟨S3x2880x4096, .f32⟩
  | .hbm, ⟨23, _⟩ => ⟨S3x2880x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S3x2880x4096, .f32⟩
  | .hbm, ⟨33, _⟩ => ⟨S3x2880x4096, .f32⟩
  | .hbm, ⟨34, _⟩ => ⟨S_, .f32⟩
  | .hbm, ⟨35, _⟩ => ⟨S3x2880x4096, .f32⟩
  | .hbm, ⟨36, _⟩ => ⟨S3x2880x4096, .f32⟩
  | .hbm, ⟨37, _⟩ => ⟨S_, .f32⟩
  | .hbm, ⟨38, _⟩ => ⟨S3x2880x4096, .f32⟩
  | .hbm, ⟨39, _⟩ => ⟨S3x2880x4096, .f32⟩
  | .hbm, ⟨40, _⟩ => ⟨S3x2880x4096, .f32⟩
  | .hbm, ⟨41, _⟩ => ⟨S_, .f32⟩
  | .hbm, ⟨42, _⟩ => ⟨S3x2880x4096, .f32⟩
  | .hbm, ⟨43, _⟩ => ⟨S3x2880x4096, .f32⟩
  | .hbm, ⟨44, _⟩ => ⟨S_, .f32⟩
  | .hbm, ⟨45, _⟩ => ⟨S3x2880x4096, .f32⟩
  | .hbm, ⟨46, _⟩ => ⟨S3x2880x4096, .f32⟩
  | .hbm, ⟨47, _⟩ => ⟨S3x2880x4096, .f32⟩
  | .hbm, ⟨48, _⟩ => ⟨S3x2880x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S3x2880x4096, .f32⟩
  | .hbm, ⟨60, _⟩ => ⟨S3x2880x4096, .f32⟩
  | .hbm, ⟨61, _⟩ => ⟨S_, .f32⟩
  | .hbm, ⟨62, _⟩ => ⟨S_, .f32⟩
  | .hbm, ⟨63, _⟩ => ⟨S3x2880x4096, .f32⟩
  | .hbm, ⟨64, _⟩ => ⟨S3x2880x4096, .f32⟩
  | .hbm, ⟨65, _⟩ => ⟨S3x2880x4096, .f32⟩
  | .hbm, ⟨66, _⟩ => ⟨S_, .f32⟩
  | .hbm, ⟨67, _⟩ => ⟨S3x2880x4096, .f32⟩
  | .hbm, ⟨68, _⟩ => ⟨S3x2880x4096, .f32⟩
  | .hbm, ⟨69, _⟩ => ⟨S_, .f32⟩
  | .hbm, ⟨70, _⟩ => ⟨S3x2880x4096, .f32⟩
  | .hbm, ⟨71, _⟩ => ⟨S3x2880x4096, .f32⟩
  | .hbm, ⟨72, _⟩ => ⟨S3x2880x4096, .f32⟩
  | .hbm, ⟨73, _⟩ => ⟨S3x2880x4096, .f32⟩
  | .hbm, ⟨74, _⟩ => ⟨S3x2880x4096, .f32⟩
  | .hbm, ⟨75, _⟩ => ⟨S3x2880x4096, .f32⟩
  | .hbm, ⟨76, _⟩ => ⟨S_, .f32⟩
  | .hbm, ⟨77, _⟩ => ⟨S3, .f32⟩
  | .hbm, ⟨78, _⟩ => ⟨S3x1, .f32⟩
  | .hbm, ⟨79, _⟩ => ⟨S3x15, .f32⟩
  | .hbm, ⟨80, _⟩ => ⟨S3x16, .f32⟩
  | .hbm, ⟨81, _⟩ => ⟨S_, .f32⟩
  | .hbm, ⟨82, _⟩ => ⟨S3, .f32⟩
  | .hbm, ⟨83, _⟩ => ⟨S_, .f32⟩
  | .hbm, ⟨84, _⟩ => ⟨S3, .f32⟩
  | .hbm, ⟨85, _⟩ => ⟨S3, .i1⟩
  | .hbm, ⟨86, _⟩ => ⟨S_, .f32⟩
  | .hbm, ⟨87, _⟩ => ⟨S3, .f32⟩
  | .hbm, ⟨88, _⟩ => ⟨S3, .f32⟩
  | .hbm, ⟨89, _⟩ => ⟨S3, .f32⟩
  | .hbm, ⟨90, _⟩ => ⟨S_, .f32⟩
  | .hbm, ⟨91, _⟩ => ⟨S_, .f32⟩
  | .hbm, ⟨92, _⟩ => ⟨S3, .f32⟩
  | .hbm, ⟨93, _⟩ => ⟨S3, .f32⟩
  | .hbm, ⟨94, _⟩ => ⟨S3, .f32⟩
  | .hbm, ⟨95, _⟩ => ⟨S_, .f32⟩
  | .hbm, ⟨96, _⟩ => ⟨S3, .f32⟩
  | .hbm, ⟨97, _⟩ => ⟨S3, .f32⟩
  | .hbm, ⟨98, _⟩ => ⟨S_, .i32⟩
  | .hbm, ⟨99, _⟩ => ⟨S_, .f32⟩
  | .hbm, ⟨100, _⟩ => ⟨S3, .f32⟩
  | .hbm, ⟨101, _⟩ => ⟨S3, .f32⟩
  | .hbm, ⟨102, _⟩ => ⟨S_, .f32⟩
  | .hbm, ⟨103, _⟩ => ⟨S3, .f32⟩
  | .hbm, ⟨104, _⟩ => ⟨S3, .f32⟩
  | .hbm, ⟨105, _⟩ => ⟨S3, .f32⟩
  | .hbm, ⟨106, _⟩ => ⟨S_, .f32⟩
  | .hbm, ⟨107, _⟩ => ⟨S3, .f32⟩
  | .hbm, ⟨108, _⟩ => ⟨S3, .f32⟩
  | .hbm, ⟨109, _⟩ => ⟨S3x1x1, .f32⟩
  | .hbm, ⟨110, _⟩ => ⟨S3x2880x4096, .f32⟩
  | .hbm, ⟨111, _⟩ => ⟨S3x2880x4096, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S3x2880x4096, .f32⟩
  | .hbm, ⟨116, _⟩ => ⟨S3x2880x4096, .f32⟩
  | .hbm, ⟨117, _⟩ => ⟨S_, .f32⟩
  | .hbm, ⟨118, _⟩ => ⟨S3x2880x4096, .f32⟩
  | .hbm, ⟨119, _⟩ => ⟨S3x2880x4096, .f32⟩
  | .hbm, ⟨120, _⟩ => ⟨S3x2880x4096, .fp8e4m3⟩
  | .hbm, ⟨121, _⟩ => ⟨S3x4096x2880, .fp8e4m3⟩
  | .local _ .vmem, ⟨0, _⟩ => ⟨S3x4x3584x4096, .fp8e4m3⟩
  | .local _ .vmem, ⟨1, _⟩ => ⟨S3x4x3584x2880, .fp8e5m2⟩
  | .local _ .vmem, ⟨2, _⟩ => ⟨S3x4x3584x4096, .bf16⟩
  | .local _ .vmem, ⟨3, _⟩ => ⟨S3x4x3584x2880, .bf16⟩
  | _, _ => ⟨S3x4x3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_17 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_18 : Ref sig .tc := ⟨.hbm, 95, rfl⟩
abbrev main_v64 : Ref sig .tc := ⟨.hbm, 96, rfl⟩
abbrev main_v65 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_v66 : Ref sig .tc := ⟨.hbm, 101, rfl⟩
abbrev main_cst_19 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_20 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_21 : Ref sig .tc := ⟨.hbm, 112, rfl⟩
abbrev main_cst_22 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x4x3584x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4x3584x2880 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4x3584x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x3584x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Host.lean ====
/- What the kernel's host operations between the calls compute, over the buffers before each stretch. -/
module

public import proofs.«01_k».proof.Proof.Gen.KernelIdeal.Launch
public import Idealize.ShloMosaic.Lib.Pipeline.ValueKit
public import Idealize.ShloMosaic.Lib.StableHlo.RunRead

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## The formulas -/

/-- The scales of the products. -/
def scalesOf (xs ds : FVec Ideal S3x4 .f32) : FVec Ideal S3x4 .f32 :=
  mulf (extf .f32 (truncf .bf16 xs bitsLt_bf16_f32) bitsLt_bf16_f32) (extf .f32 (truncf .bf16 ds bitsLt_bf16_f32) bitsLt_bf16_f32)

/-- The global norm, from the folded squares. -/
def normOf (sq : FVec Ideal S3x8x8x128 .f32) : FVec Ideal S_ .f32 :=
  Host.sqrt (Host.reduceAdd sq (constant S_ .f32 0x00000000#32) reducesTo_S3x8x8x128_S_d0_1_2_3 h_S_)

/-- The clipping factor, from the norm and its bound. -/
def clipOf (norm mx : FVec Ideal S_ .f32) : FVec Ideal S_ .f32 :=
  minimumf (constant S_ .f32 0x3F800000#32) (Host.divf mx (addf norm (constant S_ .f32 0x358637BD#32)))

/-- The learning rate over the first moment's bias correction. -/
def alrOf (step : IVec S_ 32) : FVec Ideal S_ .f32 :=
  Host.divf (constant S_ .f32 0x3A83126F#32) (subf (constant S_ .f32 0x3F800000#32) (Host.powf (constant S_ .f32 0x3F666666#32) (sitofp .f32 step)))

/-- The second moment's bias correction. -/
def bc2Of (step : IVec S_ 32) : FVec Ideal S_ .f32 :=
  subf (constant S_ .f32 0x3F800000#32) (Host.powf (constant S_ .f32 0x3F733333#32) (sitofp .f32 step))

/-- The three stacked scalars. -/
def scalOf (norm mx : FVec Ideal S_ .f32) (step : IVec S_ 32) : FVec Ideal S3 .f32 :=
  concatenate S3 0 [⟨S1, broadcastInDim S1 ![] bcast_S_S1 (clipOf norm mx)⟩, ⟨S1, broadcastInDim S1 ![] bcast_S_S1 (alrOf step)⟩,
    ⟨S1, broadcastInDim S1 ![] bcast_S_S1 (Host.divf (constant S_ .f32 0x3F800000#32) (Host.sqrt (bc2Of step)))⟩] concatenates_S1_S1_S1_S3_d0

/-- The new history: the new maxima in front of the old ones but the last. -/
def histOf (am : FVec Ideal S3 .f32) (hist : FVec Ideal S3x16 .f32) : FVec Ideal S3x16 .f32 :=
  concatenate S3x16 1 [⟨S3x1, broadcastInDim S3x1 ![0] bcast_S3_S3x1_0 am⟩,
    ⟨S3x15, extractStridedSlice S3x15 ![0, 0] hist slices_S3x16_S3x15_0_0⟩] concatenates_S3x1_S3x15_S3x16_d1

/-- The largest maximum of the history. -/
def amaxOf (h : FVec Ideal S3x16 .f32) : FVec Ideal S3 .f32 :=
  Host.reduce FloatOps.maximumf h (constant S_ .f32 0xFF800000#32) reducesTo_S3x16_S3_d1 h_S_

/-- The exponent of the new scale. -/
def expOf (a : FVec Ideal S3 .f32) : FVec Ideal S3 .f32 :=
  select (cmpf .oeq a (broadcastInDim S3 ![] bcast_S_S3 (constant S_ .f32 0x00000000#32)))
    (broadcastInDim S3 ![] bcast_S_S3 (sitofp .f32 (constantI S_ 32 0#32)))
    (addf (Host.floor (Host.divf (Host.log (mulf a (broadcastInDim S3 ![] bcast_S_S3 (constant S_ .f32 0x3B124925#32))))
      (broadcastInDim S3 ![] bcast_S_S3 (Host.log (constant S_ .f32 0x40000000#32))))) (broadcastInDim S3 ![] bcast_S_S3 (constant S_ .f32 0x3F800000#32)))

/-- Two to an exponent. -/
def pow2Of (e : FVec Ideal S3 .f32) : FVec Ideal S3 .f32 := Host.powf (broadcastInDim S3 ![] bcast_S_S3 (constant S_ .f32 0x40000000#32)) e

/-! ## The stretches -/

variable (X : Valuation τ sig (Elt Ideal))

theorem host0_scales : StableHlo.after hostOps0 X (Proc.devRef .tc main_v4)
    = scalesOf (X (Proc.devRef .tc main_arg1)) (X (Proc.devRef .tc main_arg3)) := by
  after_results_simp
  rfl

theorem host1_norm : StableHlo.after hostOps1 X (Proc.devRef .tc main_v7) = normOf (X (Proc.devRef .tc main_v5_1)) := by
  after_results_simp
  rfl

theorem host1_scal : StableHlo.after hostOps1 X (Proc.devRef .tc main_v22)
    = scalOf (normOf (X (Proc.devRef .tc main_v5_1))) (X (Proc.devRef .tc main_arg9)) (X (Proc.devRef .tc main_arg8)) := by
  after_results_simp
  rfl

/-- The maxima over a matrix, from the partial ones. -/
def maxOf (am : FVec Ideal S3x32x8x128 .f32) : FVec Ideal S3 .f32 :=
  Host.reduce FloatOps.maximumf am (constant S_ .f32 0xFF800000#32) reducesTo_S3x32x8x128_S3_d1_2_3 h_S_

theorem host2_hist : StableHlo.after hostOps2 X (Proc.devRef .tc main_v27)
    = histOf (maxOf (X (Proc.devRef .tc main_v23_4))) (X (Proc.devRef .tc main_arg10)) := by
  after_results_simp
  unfold histOf
  refine congrArg₂ (fun (a : FVec Ideal S3x1 .f32) (b : FVec Ideal S3x15 .f32) =>
    concatenate S3x16 1 [⟨S3x1, a⟩, ⟨S3x15, b⟩] concatenates_S3x1_S3x15_S3x16_d1) ?_ ?_
  · after_results_simp
    rfl
  · after_results_simp

theorem host2_amax : StableHlo.after hostOps2 X (Proc.devRef .tc main_v28) = amaxOf (StableHlo.after hostOps2 X (Proc.devRef .tc main_v27)) := by
  after_results_simp
  rfl

theorem host2_zero : StableHlo.after hostOps2 X (Proc.devRef .tc main_v39)
    = cmpf (F := Ideal) (φ := .f32) .oeq (StableHlo.after hostOps2 X (Proc.devRef .tc main_v28)) (broadcastInDim S3 ![] bcast_S_S3 (constant S_ .f32 0x00000000#32)) := by
  after_results_simp

theorem host2_floor : StableHlo.after hostOps2 X (Proc.devRef .tc main_v37)
    = addf (F := Ideal) (φ := .f32) (Host.floor (Host.divf (Host.log (mulf (StableHlo.after hostOps2 X (Proc.devRef .tc main_v28)) (broadcastInDim S3 ![] bcast_S_S3 (constant S_ .f32 0x3B124925#32))))
      (broadcastInDim S3 ![] bcast_S_S3 (Host.log (constant S_ .f32 0x40000000#32))))) (broadcastInDim S3 ![] bcast_S_S3 (constant S_ .f32 0x3F800000#32)) := by
  after_results_simp

theorem host2_c : StableHlo.after hostOps2 X (Proc.devRef .tc main_c) = constantI S_ 32 0#32 := by
  after_results_simp

theorem host21_exp : StableHlo.after hostOps2_1 X (Proc.devRef .tc main_v40)
    = select (X (Proc.devRef .tc main_v39)) (broadcastInDim S3 ![] bcast_S_S3 (sitofp (F := Ideal) .f32 (X (Proc.devRef .tc main_c) : IVec S_ 32))) (X (Proc.devRef .tc main_v37)) := by
  after_results_simp
  rfl

theorem host2_exp : StableHlo.after hostOps2_1 (StableHlo.after hostOps2 X) (Proc.devRef .tc main_v40)
    = expOf (amaxOf (StableHlo.after hostOps2 X (Proc.devRef .tc main_v27))) := by
  rw [host21_exp, host2_zero, host2_floor, host2_c, host2_amax]
  rfl

theorem host2_scale : StableHlo.after hostOps2_2 X (Proc.devRef .tc main_v42) = pow2Of (X (Proc.devRef .tc main_v40)) := by
  after_results_simp
  rfl

theorem host2_inv : StableHlo.after hostOps2_2 X (Proc.devRef .tc main_v45) = pow2Of (Host.negf (X (Proc.devRef .tc main_v40))) := by
  after_results_simp
  rfl

end Cert.KernelIdeal.Hand

end
-- ==== Proof.KernelRun.lean ====
/- The kernel's run with its values: the generated frame's proof, ending with every unscoped buffer of every core
   at the last boundary's contents `W8` instead of the arguments alone. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends with each unscoped buffer of each core at the
    contents `W8` of the last segment boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.KernelIdeal.Hand

end
-- ==== Proof.Pure.lean ====
/- The kernel's payloads read at an index, over the extended reals: what one grid point of each of the three calls stores,
   as a scalar formula in the blocks that it loads. -/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## The scalar formulas of the step -/

/-- The new first moment: `β₁ m + (1 - β₁) (g · clip)`. -/
def mNew (clip g m : EReal) : EReal :=
  Ideal.ofBits .f32 0x3F666666#32 * m + Ideal.ofBits .f32 0x3DCCCCCD#32 * (g * clip)

/-- The new second moment: `β₂ v + (1 - β₂) (g · clip)²`. -/
def vNew (clip g v : EReal) : EReal :=
  Ideal.ofBits .f32 0x3F733333#32 * v + Ideal.ofBits .f32 0x3D4CCCCD#32 * (g * clip) * (g * clip)

/-- The weight's change, the second moment's root multiplied by `rbc`, the reciprocal root of its bias correction. -/
def wDelta (clip alr rbc g m v w : EReal) : EReal :=
  Ideal.ofBits .f32 0xB8D1B717#32 * w
    - Ideal.div (alr * mNew clip g m) (Ideal.sqrt (vNew clip g v) * rbc + Ideal.ofBits .f32 0x322BCC77#32)

/-- The new weight. -/
def wNew (clip alr rbc g m v w : EReal) : EReal := w + wDelta clip alr rbc g m v w

/-- A weight over its scale, cut to the range of the eight-bit format. -/
def quant (inv w : EReal) : EReal :=
  min (Ideal.ofBits .f32 0x43E00000#32) (max (Ideal.ofBits .f32 0xC3E00000#32) (w * inv))

/-! ## What the first call stores -/

/-- One point of the first call adds one microbatch's product, scaled, to the accumulator. -/
theorem k0_pay1_at (dy : FVec Ideal S1x1x3584x2880 .fp8e5m2) (x : FVec Ideal S1x1x3584x512 .fp8e4m3) (s : EReal)
    (acc : FVec Ideal S1x2880x512 .f32) (f : Fin 2880) (d : Fin 512) :
    k0_pay1 (F := Ideal) dy x s acc (ix3 0 f d)
      = acc (ix3 0 f d) + (∑ t : Fin 3584, dy (ix4 0 0 t f) * x (ix4 0 0 t d)) * s := by
  pointwise [k0_pay1]

/-- The last microbatch's point folds the squares of the gradient's block: 360 rows and four column groups onto each
    element of an 8 × 128 block. -/
theorem k0_pay2_at (g : FVec Ideal S1x2880x512 .f32) (a : Fin 8) (b : Fin 128) :
    k0_pay2 (F := Ideal) g (ix4 0 0 a b)
      = (∑ k : Fin 360, g (ix3 0 ⟨k * 8 + a, by omega⟩ ⟨b, by omega⟩) * g (ix3 0 ⟨k * 8 + a, by omega⟩ ⟨b, by omega⟩))
        + (∑ k : Fin 360, g (ix3 0 ⟨k * 8 + a, by omega⟩ ⟨128 + b, by omega⟩) * g (ix3 0 ⟨k * 8 + a, by omega⟩ ⟨128 + b, by omega⟩))
        + (∑ k : Fin 360, g (ix3 0 ⟨k * 8 + a, by omega⟩ ⟨256 + b, by omega⟩) * g (ix3 0 ⟨k * 8 + a, by omega⟩ ⟨256 + b, by omega⟩))
        + (∑ k : Fin 360, g (ix3 0 ⟨k * 8 + a, by omega⟩ ⟨384 + b, by omega⟩) * g (ix3 0 ⟨k * 8 + a, by omega⟩ ⟨384 + b, by omega⟩)) := by
  pointwise [k0_pay2]

/-! ## What the second call stores -/

theorem k1_wn_at (v0 v1 v2 : EReal) (g mm vv w : FVec Ideal S1x2880x128 .f32) (f : Fin 2880) (d : Fin 128) :
    k1_pay1 (k1_pay11 (F := Ideal) v0 v1 v2 g mm vv w) (ix3 0 f d)
      = wNew v0 v1 v2 (g (ix3 0 f d)) (mm (ix3 0 f d)) (vv (ix3 0 f d)) (w (ix3 0 f d)) := by
  pointwise [k1_pay1, k1_pay11, k1_pay10, k1_pay9, k1_pay8, k1_pay7, k1_pay6, wNew, wDelta, mNew, vNew]

theorem k1_wd_at (v0 v1 v2 : EReal) (g mm vv w : FVec Ideal S1x2880x128 .f32) (f : Fin 2880) (d : Fin 128) :
    k1_pay2 (k1_pay10 (F := Ideal) v0 v1 v2 g mm vv w) (ix3 0 f d)
      = wDelta v0 v1 v2 (g (ix3 0 f d)) (mm (ix3 0 f d)) (vv (ix3 0 f d)) (w (ix3 0 f d)) := by
  pointwise [k1_pay2, k1_pay10, k1_pay9, k1_pay8, k1_pay7, k1_pay6, wDelta, mNew, vNew]

theorem k1_mn_at (v0 : EReal) (g mm : FVec Ideal S1x2880x128 .f32) (f : Fin 2880) (d : Fin 128) :
    k1_pay3 (k1_pay7 (F := Ideal) v0 g mm) (ix3 0 f d) = mNew v0 (g (ix3 0 f d)) (mm (ix3 0 f d)) := by
  pointwise [k1_pay3, k1_pay7, k1_pay6, mNew]

theorem k1_vn_at (v0 : EReal) (g vv : FVec Ideal S1x2880x128 .f32) (f : Fin 2880) (d : Fin 128) :
    k1_pay4 (k1_pay8 (F := Ideal) v0 g vv) (ix3 0 f d) = vNew v0 (g (ix3 0 f d)) (vv (ix3 0 f d)) := by
  pointwise [k1_pay4, k1_pay8, k1_pay6, vNew]

/-- The second call's folded maximum: the largest magnitude of 360 new weights of a column. -/
theorem k1_am_at (v0 v1 v2 : EReal) (g mm vv w : FVec Ideal S1x2880x128 .f32) (a : Fin 8) (b : Fin 128) :
    k1_pay5 (k1_pay11 (F := Ideal) v0 v1 v2 g mm vv w) (ix4 0 0 a b)
      = Finset.univ.fold max (Ideal.ofBits .f32 0xFF800000#32) (fun k : Fin 360 =>
          FloatOps.absf (F := Ideal) (φ := .f32) (wNew v0 v1 v2 (g (ix3 0 ⟨k * 8 + a, by omega⟩ b)) (mm (ix3 0 ⟨k * 8 + a, by omega⟩ b))
            (vv (ix3 0 ⟨k * 8 + a, by omega⟩ b)) (w (ix3 0 ⟨k * 8 + a, by omega⟩ b)))) := by
  pointwise [k1_pay5, k1_pay11, k1_pay10, k1_pay9, k1_pay8, k1_pay7, k1_pay6, wNew, wDelta, mNew, vNew]

/-! ## What the third call stores -/

theorem k2_c_at (inv : EReal) (w : FVec Ideal S1x2880x128 .f32) (f : Fin 2880) (d : Fin 128) :
    k2_pay2 (F := Ideal) inv w (ix3 0 f d) = quant inv (w (ix3 0 f d)) := by
  pointwise [k2_pay2, k2_pay1, quant]

theorem k2_ct_at (inv : EReal) (w : FVec Ideal S1x2880x128 .f32) (f : Fin 2880) (d : Fin 128) :
    k2_pay3 (F := Ideal) inv w (ix3 0 d f) = quant inv (w (ix3 0 f d)) := by
  pointwise [k2_pay3, k2_pay1, quant]

end Cert.KernelIdeal.Hand

end
-- ==== Proof.Region0.lean ====
/- What the first call leaves in its two result arrays, as functions of the arrays it reads: four microbatches are
   accumulated in one block, onto the master gradient's, and the last of them folds the block's squares. -/
module

public import proofs.«01_k».proof.Proof.Gen.KernelIdeal.Frame
public import proofs.«01_k».proof.Proof.Pure
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Where the blocks lie -/

/-- The first call's index maps, and its word of the scales, at every grid point. -/
theorem idx0 : ∀ t : Fin cfg0.N, win0_0.index t = ![0, 0]
    ∧ win0_1.index t = ![t.val / 32, t.val % 4, 0, t.val / 4 % 8]
    ∧ win0_2.index t = ![t.val / 32, t.val % 4, 0, 0]
    ∧ win0_3.index t = ![t.val / 32, 0, t.val / 4 % 8]
    ∧ win0_4.index t = ![t.val / 32, 0, t.val / 4 % 8]
    ∧ win0_5.index t = ![t.val / 32, t.val / 4 % 8, 0, 0]
    ∧ k0_off1 (grid0.coords t) = ![t.val / 32, t.val % 4] :=
  (by decide +kernel : ∀ t : Fin grid0.N, _)

theorem pt0 (t : Fin cfg0.N) : t.val < 96 := t.isLt

/-- The matrix, the microbatch, the column tile, and the column, that a block's element has in its array. -/
abbrev mat0 (t : Fin cfg0.N) : Fin 3 := ⟨t.val / 32, by have := pt0 t; omega⟩
abbrev mb0 (t : Fin cfg0.N) : Fin 4 := ⟨t.val % 4, by omega⟩
abbrev tile0 (t : Fin cfg0.N) : Fin 8 := ⟨t.val / 4 % 8, by omega⟩
abbrev col0 (t : Fin cfg0.N) (d : Fin 512) : Fin 4096 := ⟨t.val / 4 % 8 * 512 + d.val, by omega⟩

theorem emb0_1 (t : Fin cfg0.N) (u : Fin 3584) (d : Fin 512) :
    (win0_1.blk t).view.emb (ix4 0 0 u d) = (ix4 (mat0 t) (mb0 t) u (col0 t d) : S3x4x3584x4096.Idx) := by
  obtain ⟨_, e1, _⟩ := idx0 t
  funext a
  apply Fin.ext
  match a with
  | 0 => blk_simp [e1]; rfl
  | 1 => blk_simp [e1]; rfl
  | 2 => blk_simp [e1]
  | 3 => blk_simp [e1]

theorem emb0_2 (t : Fin cfg0.N) (u : Fin 3584) (f : Fin 2880) :
    (win0_2.blk t).view.emb (ix4 0 0 u f) = (ix4 (mat0 t) (mb0 t) u f : S3x4x3584x2880.Idx) := by
  obtain ⟨_, _, e1, _⟩ := idx0 t
  funext a
  apply Fin.ext
  match a with
  | 0 => blk_simp [e1]; rfl
  | 1 => blk_simp [e1]; rfl
  | 2 => blk_simp [e1]
  | 3 => blk_simp [e1]

theorem emb0_3 (t : Fin cfg0.N) (f : Fin 2880) (d : Fin 512) :
    (win0_3.blk t).view.emb (ix3 0 f d) = (ix3 (mat0 t) f (col0 t d) : S3x2880x4096.Idx) := by
  obtain ⟨_, _, _, e1, _⟩ := idx0 t
  funext a
  apply Fin.ext
  match a with
  | 0 => blk_simp [e1]; rfl
  | 1 => blk_simp [e1]
  | 2 => blk_simp [e1]

theorem emb0_4 (t : Fin cfg0.N) (f : Fin 2880) (d : Fin 512) :
    (win0_4.blk t).view.emb (ix3 0 f d) = (ix3 (mat0 t) f (col0 t d) : S3x2880x4096.Idx) := by
  obtain ⟨_, _, _, _, e1, _⟩ := idx0 t
  funext a
  apply Fin.ext
  match a with
  | 0 => blk_simp [e1]; rfl
  | 1 => blk_simp [e1]
  | 2 => blk_simp [e1]

theorem emb0_5 (t : Fin cfg0.N) (a : Fin 8) (b : Fin 128) :
    (win0_5.blk t).view.emb (ix4 0 0 a b) = (ix4 (mat0 t) (tile0 t) a b : S3x8x8x128.Idx) := by
  obtain ⟨_, _, _, _, _, e1, _⟩ := idx0 t
  funext a
  apply Fin.ext
  match a with
  | 0 => blk_simp [e1]; rfl
  | 1 => blk_simp [e1]; rfl
  | 2 => blk_simp [e1]
  | 3 => blk_simp [e1]

/-- The scales' block is the whole array, and the word read of it is the matrix's and the microbatch's own. -/
theorem emb0_0 (t : Fin cfg0.N) (h) (x) :
    (win0_0.blk t).view.emb ((Rect.unit (s := S3x4) (k0_off1 (grid0.coords t)) ![1, 1] h).idx x) = (ix2 (mat0 t) (mb0 t) : S3x4.Idx) := by
  obtain ⟨e0, _, _, _, _, _, e4⟩ := idx0 t
  funext a
  apply Fin.ext
  match a with
  | 0 =>
    blk_simp [e0]
    have hx : (x 0).val = 0 := Nat.lt_one_iff.mp (x 0).isLt
    have hr : ((Rect.unit (s := S3x4) (k0_off1 (grid0.coords t)) ![1, 1] h).idx x 0).val = k0_off1 (grid0.coords t) 0 + 1 * (x 0).val := rfl
    rw [hr, hx, e4]
    rfl
  | 1 =>
    blk_simp [e0]
    have hx : (x 1).val = 0 := Nat.lt_one_iff.mp (x 1).isLt
    have hr : ((Rect.unit (s := S3x4) (k0_off1 (grid0.coords t)) ![1, 1] h).idx x 1).val = k0_off1 (grid0.coords t) 1 + 1 * (x 1).val := rfl
    rw [hr, hx, e4]
    rfl

/-! ## The arrays, over the scales, the codes and the master gradient -/

/-- One microbatch's product of one element, scaled. -/
def mbTerm (S : FVec Ideal S3x4 .f32) (X : FVec Ideal S3x4x3584x4096 .fp8e4m3) (DY : FVec Ideal S3x4x3584x2880 .fp8e5m2)
    (n : Fin 3) (g : Fin 4) (f : Fin 2880) (d : Fin 4096) : EReal :=
  (∑ u : Fin 3584, DY (ix4 n g u f) * X (ix4 n g u d)) * S (ix2 n g)

/-- The gradient: the master gradient and four microbatches, in order. -/
def GR (S : FVec Ideal S3x4 .f32) (X : FVec Ideal S3x4x3584x4096 .fp8e4m3) (DY : FVec Ideal S3x4x3584x2880 .fp8e5m2)
    (MG : FVec Ideal S3x2880x4096 .f32) : FVec Ideal S3x2880x4096 .f32 :=
  fun i => MG i + mbTerm S X DY (i 0) 0 (i 1) (i 2) + mbTerm S X DY (i 0) 1 (i 1) (i 2) + mbTerm S X DY (i 0) 2 (i 1) (i 2)
    + mbTerm S X DY (i 0) 3 (i 1) (i 2)

/-- The squares of a gradient, folded: 360 rows and four groups of columns onto each element. -/
def SQ (G : FVec Ideal S3x2880x4096 .f32) : FVec Ideal S3x8x8x128 .f32 := fun i =>
  have h1 : (i 1).val < 8 := (i 1).isLt
  have h2 : (i 2).val < 8 := (i 2).isLt
  have h3 : (i 3).val < 128 := (i 3).isLt
  let q : Fin 2880 → Fin 4096 → EReal := fun f d => G (ix3 (i 0) f d) * G (ix3 (i 0) f d)
  (∑ k : Fin 360, q ⟨k.val * 8 + (i 2).val, by omega⟩ ⟨(i 1).val * 512 + (i 3).val, by omega⟩)
    + (∑ k : Fin 360, q ⟨k.val * 8 + (i 2).val, by omega⟩ ⟨(i 1).val * 512 + (128 + (i 3).val), by omega⟩)
    + (∑ k : Fin 360, q ⟨k.val * 8 + (i 2).val, by omega⟩ ⟨(i 1).val * 512 + (256 + (i 3).val), by omega⟩)
    + (∑ k : Fin 360, q ⟨k.val * 8 + (i 2).val, by omega⟩ ⟨(i 1).val * 512 + (384 + (i 3).val), by omega⟩)

/-! ## The accumulator, point by point -/

/-- The region's arrays under short names. -/
abbrev aS (c : Dev nD) : FVec Ideal S3x4 .f32 := V c (Pipeline.arrRef spec0 0)
abbrev aX (c : Dev nD) : FVec Ideal S3x4x3584x4096 .fp8e4m3 := V c (Pipeline.arrRef spec0 1)
abbrev aDY (c : Dev nD) : FVec Ideal S3x4x3584x2880 .fp8e5m2 := V c (Pipeline.arrRef spec0 2)
abbrev aMG (c : Dev nD) : FVec Ideal S3x2880x4096 .f32 := V c (Pipeline.arrRef spec0 3)

/-- One point's addition, over blocks that read the arrays. -/
theorem pay_term (c : Dev nD) (t : Fin cfg0.N) (s : EReal) (hs : s = aS V c (ix2 (mat0 t) (mb0 t))) (acc : FVec Ideal S1x2880x512 .f32)
    (f : Fin 2880) (d : Fin 512) : k0_pay1 (F := Ideal) (iblk0 V c 2 t) (iblk0 V c 1 t) s acc (ix3 0 f d)
      = acc (ix3 0 f d) + mbTerm (aS V c) (aX V c) (aDY V c) (mat0 t) (mb0 t) f (col0 t d) := by
  refine (k0_pay1_at _ _ _ _ f d).trans ?_
  subst hs
  unfold mbTerm
  refine congrArg (fun z : EReal => acc (ix3 0 f d) + z * aS V c (ix2 (mat0 t) (mb0 t))) ?_
  refine Finset.sum_congr rfl fun u _ => ?_
  exact congrArg₂ (fun a b : EReal => a * b) (congrArg (V c (Pipeline.arrRef spec0 2)) (emb0_2 t u f))
    (congrArg (V c (Pipeline.arrRef spec0 1)) (emb0_1 t u d))

theorem outs_A (c : Dev nD) (t : Fin cfg0.N) (h0 : t.val % 4 = 0) (f : Fin 2880) (d : Fin 512) :
    (outsAt0 V c t.val t.isLt).1 (ix3 0 f d) = aMG V c (ix3 (mat0 t) f (col0 t d))
      + mbTerm (aS V c) (aX V c) (aDY V c) (mat0 t) (mb0 t) f (col0 t d) := by
  rw [outsAt0_A V c t h0 (by omega)]
  frame_out
  refine (pay_term V c t _ (congrArg (V c (Pipeline.arrRef spec0 0)) (emb0_0 t _ _)) _ f d).trans ?_
  exact congrArg (fun z : EReal => z + _) (congrArg (V c (Pipeline.arrRef spec0 3)) (emb0_3 t f d))

theorem outs_B (c : Dev nD) (t : Fin cfg0.N) (h0 : ¬t.val % 4 = 0) (h1 : ¬t.val % 4 = 3) (f : Fin 2880) (d : Fin 512) :
    (outsAt0 V c t.val t.isLt).1 (ix3 0 f d) = (outsAt0 V c (t.val - 1) (Nat.lt_of_le_of_lt (Nat.sub_le _ _) t.isLt)).1 (ix3 0 f d)
      + mbTerm (aS V c) (aX V c) (aDY V c) (mat0 t) (mb0 t) f (col0 t d) := by
  rw [outsAt0_B V c t h0 h1]
  frame_out
  exact pay_term V c t _ (congrArg (V c (Pipeline.arrRef spec0 0)) (emb0_0 t _ _)) _ f d

theorem outs_C (c : Dev nD) (t : Fin cfg0.N) (h1 : t.val % 4 = 3) (f : Fin 2880) (d : Fin 512) :
    (outsAt0 V c t.val t.isLt).1 (ix3 0 f d) = (outsAt0 V c (t.val - 1) (Nat.lt_of_le_of_lt (Nat.sub_le _ _) t.isLt)).1 (ix3 0 f d)
      + mbTerm (aS V c) (aX V c) (aDY V c) (mat0 t) (mb0 t) f (col0 t d) := by
  rw [outsAt0_C V c t (by omega) h1]
  frame_out
  exact pay_term V c t _ (congrArg (V c (Pipeline.arrRef spec0 0)) (emb0_0 t _ _)) _ f d

/-- The last microbatch's point leaves the folded squares of what it leaves of the gradient. -/
theorem outs_sq (c : Dev nD) (t : Fin cfg0.N) (h1 : t.val % 4 = 3) :
    (outsAt0 V c t.val t.isLt).2 = k0_pay2 (F := Ideal) (outsAt0 V c t.val t.isLt).1 := by
  rw [outsAt0_C V c t (by omega) h1]
  frame_out

end Cert.KernelIdeal.Hand

end
-- ==== Proof.Region0Arr.lean ====
/- The first call's two result arrays: the four points of a run put together. -/
module

public import proofs.«01_k».proof.Proof.Region0

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The gradient's array, in short. -/
abbrev aGR (c : Dev nD) : FVec Ideal S3x2880x4096 .f32 := GR (aS V c) (aX V c) (aDY V c) (aMG V c)

/-- The last microbatch's point leaves the gradient. -/
theorem outs_run (c : Dev nD) (t : Fin cfg0.N) (h : t.val % 4 = 3) (f : Fin 2880) (d : Fin 512) :
    (outsAt0 V c t.val t.isLt).1 (ix3 0 f d) = aGR V c (ix3 (mat0 t) f (col0 t d)) := by
  have ht := pt0 t
  have hlt : ∀ k, t.val - k < cfg0.N := fun k => Nat.lt_of_le_of_lt (Nat.sub_le _ _) t.isLt
  have e1 := outs_B V c ⟨t.val - 1, hlt 1⟩ (by dsimp only; omega) (by dsimp only; omega) f d
  have e2 := outs_B V c ⟨t.val - 1 - 1, Nat.lt_of_le_of_lt (Nat.sub_le _ _) (hlt 1)⟩ (by dsimp only; omega) (by dsimp only; omega) f d
  have e3 := outs_A V c ⟨t.val - 1 - 1 - 1, Nat.lt_of_le_of_lt (Nat.sub_le _ _) (Nat.lt_of_le_of_lt (Nat.sub_le _ _) (hlt 1))⟩
    (by dsimp only; omega) f d
  have hm : ∀ s : Fin cfg0.N, s.val / 4 = t.val / 4 → mat0 s = mat0 t ∧ col0 s d = col0 t d := fun s hs =>
    ⟨Fin.ext (by show s.val / 32 = t.val / 32; omega), Fin.ext (by show s.val / 4 % 8 * 512 + d.val = t.val / 4 % 8 * 512 + d.val; rw [hs])⟩
  have hb : ∀ (s : Fin cfg0.N) (g : Fin 4), s.val % 4 = g.val → mb0 s = g := fun s g hs => Fin.ext hs
  obtain ⟨m1, c1⟩ := hm ⟨t.val - 1, hlt 1⟩ (by dsimp only; omega)
  obtain ⟨m2, c2⟩ := hm ⟨t.val - 1 - 1, Nat.lt_of_le_of_lt (Nat.sub_le _ _) (hlt 1)⟩ (by dsimp only; omega)
  obtain ⟨m3, c3⟩ := hm ⟨t.val - 1 - 1 - 1, Nat.lt_of_le_of_lt (Nat.sub_le _ _) (Nat.lt_of_le_of_lt (Nat.sub_le _ _) (hlt 1))⟩ (by dsimp only; omega)
  rw [m1, c1, hb ⟨t.val - 1, hlt 1⟩ 2 (by show (t.val - 1) % 4 = 2; omega)] at e1
  rw [m2, c2, hb ⟨t.val - 1 - 1, _⟩ 1 (by show (t.val - 1 - 1) % 4 = 1; omega)] at e2
  rw [m3, c3, hb ⟨t.val - 1 - 1 - 1, _⟩ 0 (by show (t.val - 1 - 1 - 1) % 4 = 0; omega)] at e3
  refine (outs_C V c t h f d).trans ?_
  rw [hb t 3 (by show t.val % 4 = 3; omega)]
  refine (congrArg (fun z : EReal => z + _) (e1.trans (congrArg (fun z : EReal => z + _) (e2.trans (congrArg (fun z : EReal => z + _) e3))))).trans ?_
  rfl

/-- The gradient's array after the first call. -/
theorem region0_GR (c : Dev nD) : (dat0 V c).arrAt 4 cfg0.N = aGR V c := by
  refine (dat0 V c).arrAt_eq_of_covers 4 _ (by decide +kernel) fun t hf y => ?_
  blk_simp
  rw [after0_4]
  idx_vars y
  obtain rfl : y0 = 0 := Subsingleton.elim _ _
  exact (outs_run V c t ((flush0_4 t).mp hf) y1 y2).trans (congrArg (aGR V c) (emb0_4 t y1 y2)).symm

/-- The folded squares' array after the first call. -/
theorem region0_SQ (c : Dev nD) : (dat0 V c).arrAt 5 cfg0.N = SQ (aGR V c) := by
  refine (dat0 V c).arrAt_eq_of_covers 5 _ (by decide +kernel) fun t hf y => ?_
  blk_simp
  rw [after0_5]
  idx_vars y
  obtain rfl : y0 = 0 := Subsingleton.elim _ _
  obtain rfl : y1 = 0 := Subsingleton.elim _ _
  have h := (flush0_5 t).mp hf
  refine Eq.trans ?_ (congrArg (SQ (aGR V c)) (emb0_5 t y2 y3)).symm
  rw [outs_sq V c t h]
  refine (k0_pay2_at _ y2 y3).trans ?_
  simp only [outs_run V c t h]
  rfl

end Cert.KernelIdeal.Hand

end
-- ==== Proof.Region1.lean ====
/- What the second call leaves in its five result arrays, as functions of the arrays it reads. -/
module

public import proofs.«01_k».proof.Proof.Gen.KernelIdeal.Frame
public import proofs.«01_k».proof.Proof.Pure
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays, over the stacked scalars `sc`, the gradient and the old state -/

/-- The new weights. -/
def WN (sc : FVec Ideal S3 .f32) (g w m v : FVec Ideal S3x2880x4096 .f32) : FVec Ideal S3x2880x4096 .f32 :=
  fun i => wNew (sc (ix1 0)) (sc (ix1 1)) (sc (ix1 2)) (g i) (m i) (v i) (w i)

/-- The weights' changes. -/
def WD (sc : FVec Ideal S3 .f32) (g w m v : FVec Ideal S3x2880x4096 .f32) : FVec Ideal S3x2880x4096 .f32 :=
  fun i => wDelta (sc (ix1 0)) (sc (ix1 1)) (sc (ix1 2)) (g i) (m i) (v i) (w i)

/-- The new first moments. -/
def MN (sc : FVec Ideal S3 .f32) (g m : FVec Ideal S3x2880x4096 .f32) : FVec Ideal S3x2880x4096 .f32 :=
  fun i => mNew (sc (ix1 0)) (g i) (m i)

/-- The new second moments. -/
def VN (sc : FVec Ideal S3 .f32) (g v : FVec Ideal S3x2880x4096 .f32) : FVec Ideal S3x2880x4096 .f32 :=
  fun i => vNew (sc (ix1 0)) (g i) (v i)

/-! ## Where the blocks lie -/

/-- The second call's index maps at every grid point. -/
theorem idx1 : ∀ t : Fin cfg1.N, win1_0.index t = ![0]
    ∧ win1_1.index t = ![t.val / 32, 0, t.val % 32]
    ∧ win1_2.index t = ![t.val / 32, 0, t.val % 32]
    ∧ win1_3.index t = ![t.val / 32, 0, t.val % 32]
    ∧ win1_4.index t = ![t.val / 32, 0, t.val % 32]
    ∧ win1_5.index t = ![t.val / 32, 0, t.val % 32]
    ∧ win1_6.index t = ![t.val / 32, 0, t.val % 32]
    ∧ win1_7.index t = ![t.val / 32, 0, t.val % 32]
    ∧ win1_8.index t = ![t.val / 32, 0, t.val % 32]
    ∧ win1_9.index t = ![t.val / 32, t.val % 32, 0, 0] :=
  (by decide +kernel : ∀ t : Fin grid1.N, _)

theorem pt1 (t : Fin cfg1.N) : t.val < 96 := t.isLt

/-- The matrix, the tile, and the column, that a block's element has in its array. -/
abbrev mat1 (t : Fin cfg1.N) : Fin 3 := ⟨t.val / 32, by have := pt1 t; omega⟩
abbrev tile1 (t : Fin cfg1.N) : Fin 32 := ⟨t.val % 32, by omega⟩
abbrev col1 (t : Fin cfg1.N) (d : Fin 128) : Fin 4096 := ⟨t.val % 32 * 128 + d.val, by omega⟩

theorem emb1_1 (t : Fin cfg1.N) (f : Fin 2880) (d : Fin 128) :
    (win1_1.blk t).view.emb (ix3 0 f d) = (ix3 (mat1 t) f (col1 t d) : S3x2880x4096.Idx) := by
  obtain ⟨_, e1, _⟩ := idx1 t
  funext a
  apply Fin.ext
  match a with
  | 0 => blk_simp [e1]; rfl
  | 1 => blk_simp [e1]
  | 2 => blk_simp [e1]

theorem emb1_2 (t : Fin cfg1.N) (f : Fin 2880) (d : Fin 128) :
    (win1_2.blk t).view.emb (ix3 0 f d) = (ix3 (mat1 t) f (col1 t d) : S3x2880x4096.Idx) := by
  obtain ⟨_, _, e1, _⟩ := idx1 t
  funext a
  apply Fin.ext
  match a with
  | 0 => blk_simp [e1]; rfl
  | 1 => blk_simp [e1]
  | 2 => blk_simp [e1]

theorem emb1_3 (t : Fin cfg1.N) (f : Fin 2880) (d : Fin 128) :
    (win1_3.blk t).view.emb (ix3 0 f d) = (ix3 (mat1 t) f (col1 t d) : S3x2880x4096.Idx) := by
  obtain ⟨_, _, _, e1, _⟩ := idx1 t
  funext a
  apply Fin.ext
  match a with
  | 0 => blk_simp [e1]; rfl
  | 1 => blk_simp [e1]
  | 2 => blk_simp [e1]

theorem emb1_4 (t : Fin cfg1.N) (f : Fin 2880) (d : Fin 128) :
    (win1_4.blk t).view.emb (ix3 0 f d) = (ix3 (mat1 t) f (col1 t d) : S3x2880x4096.Idx) := by
  obtain ⟨_, _, _, _, e1, _⟩ := idx1 t
  funext a
  apply Fin.ext
  match a with
  | 0 => blk_simp [e1]; rfl
  | 1 => blk_simp [e1]
  | 2 => blk_simp [e1]

theorem emb1_5 (t : Fin cfg1.N) (f : Fin 2880) (d : Fin 128) :
    (win1_5.blk t).view.emb (ix3 0 f d) = (ix3 (mat1 t) f (col1 t d) : S3x2880x4096.Idx) := by
  obtain ⟨_, _, _, _, _, e1, _⟩ := idx1 t
  funext a
  apply Fin.ext
  match a with
  | 0 => blk_simp [e1]; rfl
  | 1 => blk_simp [e1]
  | 2 => blk_simp [e1]

theorem emb1_6 (t : Fin cfg1.N) (f : Fin 2880) (d : Fin 128) :
    (win1_6.blk t).view.emb (ix3 0 f d) = (ix3 (mat1 t) f (col1 t d) : S3x2880x4096.Idx) := by
  obtain ⟨_, _, _, _, _, _, e1, _⟩ := idx1 t
  funext a
  apply Fin.ext
  match a with
  | 0 => blk_simp [e1]; rfl
  | 1 => blk_simp [e1]
  | 2 => blk_simp [e1]

theorem emb1_7 (t : Fin cfg1.N) (f : Fin 2880) (d : Fin 128) :
    (win1_7.blk t).view.emb (ix3 0 f d) = (ix3 (mat1 t) f (col1 t d) : S3x2880x4096.Idx) := by
  obtain ⟨_, _, _, _, _, _, _, e1, _⟩ := idx1 t
  funext a
  apply Fin.ext
  match a with
  | 0 => blk_simp [e1]; rfl
  | 1 => blk_simp [e1]
  | 2 => blk_simp [e1]

theorem emb1_8 (t : Fin cfg1.N) (f : Fin 2880) (d : Fin 128) :
    (win1_8.blk t).view.emb (ix3 0 f d) = (ix3 (mat1 t) f (col1 t d) : S3x2880x4096.Idx) := by
  obtain ⟨_, _, _, _, _, _, _, _, e1, _⟩ := idx1 t
  funext a
  apply Fin.ext
  match a with
  | 0 => blk_simp [e1]; rfl
  | 1 => blk_simp [e1]
  | 2 => blk_simp [e1]

theorem emb1_9 (t : Fin cfg1.N) (a : Fin 8) (b : Fin 128) :
    (win1_9.blk t).view.emb (ix4 0 0 a b) = (ix4 (mat1 t) (tile1 t) a b : S3x32x8x128.Idx) := by
  obtain ⟨_, _, _, _, _, _, _, _, _, e1⟩ := idx1 t
  funext a
  apply Fin.ext
  match a with
  | 0 => blk_simp [e1]; rfl
  | 1 => blk_simp [e1]; rfl
  | 2 => blk_simp [e1]
  | 3 => blk_simp [e1]

/-- The stacked scalars' block is the whole array: the word read at `k` is word `k`. -/
theorem emb1_0 (t : Fin cfg1.N) (k : Fin 3) (h) (x) :
    (win1_0.blk t).view.emb ((Rect.unit (s := S3) ![k.val] S1.size h).idx x) = (ix1 k : S3.Idx) := by
  obtain ⟨e0, _⟩ := idx1 t
  funext a
  apply Fin.ext
  match a with
  | 0 =>
    blk_simp [e0]
    have hx : (x 0).val = 0 := Nat.lt_one_iff.mp (x 0).isLt
    have hr : ((Rect.unit (s := S3) ![k.val] S1.size h).idx x 0).val = k.val + 1 * (x 0).val := rfl
    rw [hr, hx]
    rfl

/-! ## The arrays after the call -/

theorem wNew_congr {a a' b b' r r' g g' m m' v v' w w' : EReal} (h1 : a = a') (h2 : b = b') (h3 : r = r') (h4 : g = g') (h5 : m = m')
    (h6 : v = v') (h7 : w = w') : wNew a b r g m v w = wNew a' b' r' g' m' v' w' := by
  rw [h1, h2, h3, h4, h5, h6, h7]

theorem wDelta_congr {a a' b b' r r' g g' m m' v v' w w' : EReal} (h1 : a = a') (h2 : b = b') (h3 : r = r') (h4 : g = g') (h5 : m = m')
    (h6 : v = v') (h7 : w = w') : wDelta a b r g m v w = wDelta a' b' r' g' m' v' w' := by
  rw [h1, h2, h3, h4, h5, h6, h7]

theorem mNew_congr {a a' g g' m m' : EReal} (h1 : a = a') (h4 : g = g') (h5 : m = m') : mNew a g m = mNew a' g' m' := by
  rw [h1, h4, h5]

theorem vNew_congr {a a' g g' m m' : EReal} (h1 : a = a') (h4 : g = g') (h5 : m = m') : vNew a g m = vNew a' g' m' := by
  rw [h1, h4, h5]

/-- The new weights' array after the second call. -/
theorem region1_WN (c : Dev nD) : (dat1 V c).arrAt 5 cfg1.N
    = WN (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_covers 5 _ (by decide +kernel) fun t hf y => ?_
  blk_simp
  rw [after1_5]; unfold outsAt1; frame_out
  idx_vars y
  obtain rfl : y0 = 0 := Subsingleton.elim _ _
  exact (k1_wn_at _ _ _ _ _ _ _ y1 y2).trans ((wNew_congr (congrArg (V c (Pipeline.arrRef spec1 0)) (emb1_0 t 0 _ _)) (congrArg (V c (Pipeline.arrRef spec1 0)) (emb1_0 t 1 _ _)) (congrArg (V c (Pipeline.arrRef spec1 0)) (emb1_0 t 2 _ _))
      (congrArg (V c (Pipeline.arrRef spec1 1)) (emb1_1 t y1 y2)) (congrArg (V c (Pipeline.arrRef spec1 3)) (emb1_3 t y1 y2)) (congrArg (V c (Pipeline.arrRef spec1 4)) (emb1_4 t y1 y2)) (congrArg (V c (Pipeline.arrRef spec1 2)) (emb1_2 t y1 y2))).trans
    (congrArg (WN (V c (Pipeline.arrRef spec1 0)) (V c (Pipeline.arrRef spec1 1)) (V c (Pipeline.arrRef spec1 2)) (V c (Pipeline.arrRef spec1 3)) (V c (Pipeline.arrRef spec1 4))) (emb1_5 t y1 y2)).symm)

/-- The weight changes' array after the second call. -/
theorem region1_WD (c : Dev nD) : (dat1 V c).arrAt 6 cfg1.N
    = WD (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_covers 6 _ (by decide +kernel) fun t hf y => ?_
  blk_simp
  rw [after1_6]; unfold outsAt1; frame_out
  idx_vars y
  obtain rfl : y0 = 0 := Subsingleton.elim _ _
  exact (k1_wd_at _ _ _ _ _ _ _ y1 y2).trans ((wDelta_congr (congrArg (V c (Pipeline.arrRef spec1 0)) (emb1_0 t 0 _ _)) (congrArg (V c (Pipeline.arrRef spec1 0)) (emb1_0 t 1 _ _)) (congrArg (V c (Pipeline.arrRef spec1 0)) (emb1_0 t 2 _ _))
      (congrArg (V c (Pipeline.arrRef spec1 1)) (emb1_1 t y1 y2)) (congrArg (V c (Pipeline.arrRef spec1 3)) (emb1_3 t y1 y2)) (congrArg (V c (Pipeline.arrRef spec1 4)) (emb1_4 t y1 y2)) (congrArg (V c (Pipeline.arrRef spec1 2)) (emb1_2 t y1 y2))).trans
    (congrArg (WD (V c (Pipeline.arrRef spec1 0)) (V c (Pipeline.arrRef spec1 1)) (V c (Pipeline.arrRef spec1 2)) (V c (Pipeline.arrRef spec1 3)) (V c (Pipeline.arrRef spec1 4))) (emb1_6 t y1 y2)).symm)

/-- The first moments' array after the second call. -/
theorem region1_MN (c : Dev nD) : (dat1 V c).arrAt 7 cfg1.N
    = MN (V c (Pipeline.arrRef spec1 0)) (V c (Pipeline.arrRef spec1 1)) (V c (Pipeline.arrRef spec1 3)) := by
  refine (dat1 V c).arrAt_eq_of_covers 7 _ (by decide +kernel) fun t hf y => ?_
  blk_simp
  rw [after1_7]; unfold outsAt1; frame_out
  idx_vars y
  obtain rfl : y0 = 0 := Subsingleton.elim _ _
  exact (k1_mn_at _ _ _ y1 y2).trans ((mNew_congr (congrArg (V c (Pipeline.arrRef spec1 0)) (emb1_0 t 0 _ _))
      (congrArg (V c (Pipeline.arrRef spec1 1)) (emb1_1 t y1 y2)) (congrArg (V c (Pipeline.arrRef spec1 3)) (emb1_3 t y1 y2))).trans
    (congrArg (MN (V c (Pipeline.arrRef spec1 0)) (V c (Pipeline.arrRef spec1 1)) (V c (Pipeline.arrRef spec1 3))) (emb1_7 t y1 y2)).symm)

/-- The second moments' array after the second call. -/
theorem region1_VN (c : Dev nD) : (dat1 V c).arrAt 8 cfg1.N
    = VN (V c (Pipeline.arrRef spec1 0)) (V c (Pipeline.arrRef spec1 1)) (V c (Pipeline.arrRef spec1 4)) := by
  refine (dat1 V c).arrAt_eq_of_covers 8 _ (by decide +kernel) fun t hf y => ?_
  blk_simp
  rw [after1_8]; unfold outsAt1; frame_out
  idx_vars y
  obtain rfl : y0 = 0 := Subsingleton.elim _ _
  exact (k1_vn_at _ _ _ y1 y2).trans ((vNew_congr (congrArg (V c (Pipeline.arrRef spec1 0)) (emb1_0 t 0 _ _))
      (congrArg (V c (Pipeline.arrRef spec1 1)) (emb1_1 t y1 y2)) (congrArg (V c (Pipeline.arrRef spec1 4)) (emb1_4 t y1 y2))).trans
    (congrArg (VN (V c (Pipeline.arrRef spec1 0)) (V c (Pipeline.arrRef spec1 1)) (V c (Pipeline.arrRef spec1 4))) (emb1_8 t y1 y2)).symm)

end Cert.KernelIdeal.Hand

end
-- ==== Proof.Region1Max.lean ====
/- What the second call leaves in the array of its partial maxima. -/
module

public import proofs.«01_k».proof.Proof.Gen.KernelIdeal.Frame
public import proofs.«01_k».proof.Proof.Region1
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The partial maxima of the new weights' magnitudes, over 360 rows each. -/
def AM (wn : FVec Ideal S3x2880x4096 .f32) : FVec Ideal S3x32x8x128 .f32 :=
  fun i => Finset.univ.fold max (Ideal.ofBits .f32 0xFF800000#32) (fun k : Fin 360 => FloatOps.absf (F := Ideal) (φ := .f32)
    (wn (ix3 (i 0) ⟨k.val * 8 + (i 2).val, by have h : (i 2).val < 8 := (i 2).isLt; omega⟩
      ⟨(i 1).val * 128 + (i 3).val, by have h : (i 1).val < 32 := (i 1).isLt; have h' : (i 3).val < 128 := (i 3).isLt; omega⟩)))

/-- The partial maxima's array after the second call. -/
theorem region1_AM (c : Dev nD) : (dat1 V c).arrAt 9 cfg1.N
    = AM (WN (V c (Pipeline.arrRef spec1 0)) (V c (Pipeline.arrRef spec1 1)) (V c (Pipeline.arrRef spec1 2)) (V c (Pipeline.arrRef spec1 3)) (V c (Pipeline.arrRef spec1 4))) := by
  refine (dat1 V c).arrAt_eq_of_covers 9 _ (by decide +kernel) fun t hf y => ?_
  blk_simp
  rw [after1_9]; unfold outsAt1; frame_out
  idx_vars y
  obtain rfl : y0 = 0 := Subsingleton.elim _ _
  obtain rfl : y1 = 0 := Subsingleton.elim _ _
  exact (k1_am_at _ _ _ _ _ _ _ y2 y3).trans ((congrArg (fun f : Fin 360 → EReal => Finset.univ.fold max (Ideal.ofBits .f32 0xFF800000#32) f)
      (funext fun k => congrArg (FloatOps.absf (F := Ideal) (φ := .f32)) (wNew_congr (congrArg (V c (Pipeline.arrRef spec1 0)) (emb1_0 t 0 _ _)) (congrArg (V c (Pipeline.arrRef spec1 0)) (emb1_0 t 1 _ _)) (congrArg (V c (Pipeline.arrRef spec1 0)) (emb1_0 t 2 _ _))
        (congrArg (V c (Pipeline.arrRef spec1 1)) (emb1_1 t ⟨k * 8 + y2, by omega⟩ y3)) (congrArg (V c (Pipeline.arrRef spec1 3)) (emb1_3 t ⟨k * 8 + y2, by omega⟩ y3)) (congrArg (V c (Pipeline.arrRef spec1 4)) (emb1_4 t ⟨k * 8 + y2, by omega⟩ y3)) (congrArg (V c (Pipeline.arrRef spec1 2)) (emb1_2 t ⟨k * 8 + y2, by omega⟩ y3))))).trans
    (congrArg (AM (WN (V c (Pipeline.arrRef spec1 0)) (V c (Pipeline.arrRef spec1 1)) (V c (Pipeline.arrRef spec1 2)) (V c (Pipeline.arrRef spec1 3)) (V c (Pipeline.arrRef spec1 4)))) (emb1_9 t y2 y3)).symm)

end Cert.KernelIdeal.Hand

end
-- ==== Proof.Region2.lean ====
/- What the third call leaves in its two result arrays, as functions of the arrays it reads. -/
module

public import proofs.«01_k».proof.Proof.Gen.KernelIdeal.Frame
public import proofs.«01_k».proof.Proof.Pure
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The third call's index maps, and its word of the inverse scales, at every grid point. -/
theorem idx2 : ∀ t : Fin cfg2.N, win2_0.index t = ![0]
    ∧ win2_1.index t = ![t.val / 32, 0, t.val % 32]
    ∧ win2_2.index t = ![t.val / 32, 0, t.val % 32]
    ∧ win2_3.index t = ![t.val / 32, t.val % 32, 0]
    ∧ k2_off1 (grid2.coords t) = ![t.val / 32] :=
  (by decide +kernel : ∀ t : Fin grid2.N, _)

/-- The codes, over the inverse scales and the new weights. -/
def CODES (inv : FVec Ideal S3 .f32) (w : FVec Ideal S3x2880x4096 .f32) : FVec Ideal S3x2880x4096 .fp8e4m3 :=
  fun i => quant (inv (ix1 (i 0))) (w i)

/-- The transposed codes. -/
def CODEST (inv : FVec Ideal S3 .f32) (w : FVec Ideal S3x2880x4096 .f32) : FVec Ideal S3x4096x2880 .fp8e4m3 :=
  fun i => quant (inv (ix1 (i 0))) (w (ix3 (i 0) (i 2) (i 1)))

/-! ## Where the blocks lie -/

theorem pt2 (t : Fin cfg2.N) : t.val < 96 := t.isLt

/-- The matrix, and the column, that a block's element has in its array. -/
abbrev mat2 (t : Fin cfg2.N) : Fin 3 := ⟨t.val / 32, by have := pt2 t; omega⟩
abbrev col2 (t : Fin cfg2.N) (d : Fin 128) : Fin 4096 := ⟨t.val % 32 * 128 + d.val, by omega⟩

theorem emb2_1 (t : Fin cfg2.N) (f : Fin 2880) (d : Fin 128) :
    (win2_1.blk t).view.emb (ix3 0 f d) = (ix3 (mat2 t) f (col2 t d) : S3x2880x4096.Idx) := by
  obtain ⟨_, e1, _⟩ := idx2 t
  funext a
  apply Fin.ext
  match a with
  | 0 => blk_simp [e1]; rfl
  | 1 => blk_simp [e1]
  | 2 => blk_simp [e1]

theorem emb2_2 (t : Fin cfg2.N) (f : Fin 2880) (d : Fin 128) :
    (win2_2.blk t).view.emb (ix3 0 f d) = (ix3 (mat2 t) f (col2 t d) : S3x2880x4096.Idx) := by
  obtain ⟨_, _, e1, _⟩ := idx2 t
  funext a
  apply Fin.ext
  match a with
  | 0 => blk_simp [e1]; rfl
  | 1 => blk_simp [e1]
  | 2 => blk_simp [e1]

theorem emb2_3 (t : Fin cfg2.N) (f : Fin 2880) (d : Fin 128) :
    (win2_3.blk t).view.emb (ix3 0 d f) = (ix3 (mat2 t) (col2 t d) f : S3x4096x2880.Idx) := by
  obtain ⟨_, _, _, e1, _⟩ := idx2 t
  funext a
  apply Fin.ext
  match a with
  | 0 => blk_simp [e1]; rfl
  | 1 => blk_simp [e1]
  | 2 => blk_simp [e1]

/-- The inverse scales' block is the whole array, and the word read of it is the matrix's own. -/
theorem emb2_0 (t : Fin cfg2.N) (h) (x) :
    (win2_0.blk t).view.emb ((Rect.unit (s := S3) (k2_off1 (grid2.coords t)) ![1] h).idx x) = (ix1 (mat2 t) : S3.Idx) := by
  obtain ⟨e0, _, _, _, e4⟩ := idx2 t
  funext a
  apply Fin.ext
  match a with
  | 0 =>
    blk_simp [e0]
    have hx : (x 0).val = 0 := Nat.lt_one_iff.mp (x 0).isLt
    have hr : ((Rect.unit (s := S3) (k2_off1 (grid2.coords t)) ![1] h).idx x 0).val = k2_off1 (grid2.coords t) 0 + 1 * (x 0).val := rfl
    rw [hr, hx, e4]
    rfl

/-! ## The arrays after the call -/

/-- The codes' array after the third call. -/
theorem region2_codes (c : Dev nD) : (dat2 V c).arrAt 2 cfg2.N = CODES (V c (Pipeline.arrRef spec2 0)) (V c (Pipeline.arrRef spec2 1)) := by
  refine (dat2 V c).arrAt_eq_of_covers 2 _ (by decide +kernel) fun t hf y => ?_
  blk_simp
  rw [after2_2]; unfold outsAt2; frame_out
  idx_vars y
  obtain rfl : y0 = 0 := Subsingleton.elim _ _
  exact (k2_c_at _ _ y1 y2).trans ((congrArg₂ quant (congrArg (V c (Pipeline.arrRef spec2 0)) (emb2_0 t _ _))
    (congrArg (V c (Pipeline.arrRef spec2 1)) (emb2_1 t y1 y2))).trans
    (congrArg (CODES (V c (Pipeline.arrRef spec2 0)) (V c (Pipeline.arrRef spec2 1))) (emb2_2 t y1 y2)).symm)

/-- The transposed codes' array after the third call. -/
theorem region2_codes_t (c : Dev nD) : (dat2 V c).arrAt 3 cfg2.N = CODEST (V c (Pipeline.arrRef spec2 0)) (V c (Pipeline.arrRef spec2 1)) := by
  refine (dat2 V c).arrAt_eq_of_covers 3 _ (by decide +kernel) fun t hf y => ?_
  blk_simp
  rw [after2_3]; unfold outsAt2; frame_out
  idx_vars y
  obtain rfl : y0 = 0 := Subsingleton.elim _ _
  exact (k2_ct_at _ _ y2 y1).trans ((congrArg₂ quant (congrArg (V c (Pipeline.arrRef spec2 0)) (emb2_0 t _ _))
    (congrArg (V c (Pipeline.arrRef spec2 1)) (emb2_1 t y2 y1))).trans
    (congrArg (CODEST (V c (Pipeline.arrRef spec2 0)) (V c (Pipeline.arrRef spec2 1))) (emb2_3 t y2 y1)).symm)

end Cert.KernelIdeal.Hand

end
-- ==== Proof.Values.lean ====
/- The kernel's ten results at the end of its run, as functions of its arguments: the boundary contents chained through
   the host stretches and the three calls. -/
module

public import proofs.«01_k».proof.Proof.Host
public import proofs.«01_k».proof.Proof.KernelRun
public import proofs.«01_k».proof.Proof.Region0Arr
public import proofs.«01_k».proof.Proof.Region1
public import proofs.«01_k».proof.Proof.Region1Max
public import proofs.«01_k».proof.Proof.Region2

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The formulas over the arguments -/

def kGrad : FVec Ideal S3x2880x4096 .f32 :=
  GR (scalesOf (m ((c : Thread nD τ).loc main_arg1)) (m ((c : Thread nD τ).loc main_arg3))) (m ((c : Thread nD τ).loc main_arg0))
    (m ((c : Thread nD τ).loc main_arg2)) (m ((c : Thread nD τ).loc main_arg4))

def kNorm : FVec Ideal S_ .f32 := normOf (SQ (kGrad m c))

def kScal : FVec Ideal S3 .f32 := scalOf (kNorm m c) (m ((c : Thread nD τ).loc main_arg9)) (m ((c : Thread nD τ).loc main_arg8))

def kWN : FVec Ideal S3x2880x4096 .f32 := WN (kScal m c) (kGrad m c) (m ((c : Thread nD τ).loc main_arg5)) (m ((c : Thread nD τ).loc main_arg6)) (m ((c : Thread nD τ).loc main_arg7))

def kWD : FVec Ideal S3x2880x4096 .f32 := WD (kScal m c) (kGrad m c) (m ((c : Thread nD τ).loc main_arg5)) (m ((c : Thread nD τ).loc main_arg6)) (m ((c : Thread nD τ).loc main_arg7))

def kMN : FVec Ideal S3x2880x4096 .f32 := MN (kScal m c) (kGrad m c) (m ((c : Thread nD τ).loc main_arg6))

def kVN : FVec Ideal S3x2880x4096 .f32 := VN (kScal m c) (kGrad m c) (m ((c : Thread nD τ).loc main_arg7))

def kHist : FVec Ideal S3x16 .f32 := histOf (maxOf (AM (kWN m c))) (m ((c : Thread nD τ).loc main_arg10))

def kExp : FVec Ideal S3 .f32 := expOf (amaxOf (kHist m c))

/-! ## The boundaries -/

theorem W1_scales : W1 m ρ c (Proc.devRef .tc main_v4)
    = scalesOf (m ((c : Thread nD τ).loc main_arg1)) (m ((c : Thread nD τ).loc main_arg3)) := host0_scales (W0 m ρ c)

theorem aGR_eq : aGR (V1 m ρ) c = kGrad m c := by
  have e0 : V1 m ρ c (Pipeline.arrRef spec0 0) = _ := W1_scales m ρ c
  have e1 : V1 m ρ c (Pipeline.arrRef spec0 1) = _ := W1_args m ρ c main_arg0 (by decide)
  have e2 : V1 m ρ c (Pipeline.arrRef spec0 2) = _ := W1_args m ρ c main_arg2 (by decide)
  have e3 : V1 m ρ c (Pipeline.arrRef spec0 3) = _ := W1_args m ρ c main_arg4 (by decide)
  unfold aGR aS aX aDY aMG
  rw [e0, e1, e2, e3]
  rfl

theorem W2_grad : W2 m ρ c (Proc.devRef .tc main_v5_0) = kGrad m c :=
  (W2_arr m ρ c 4).trans ((region0_GR (V1 m ρ) c).trans (aGR_eq m ρ c))

theorem W2_sq : W2 m ρ c (Proc.devRef .tc main_v5_1) = SQ (kGrad m c) :=
  (W2_arr m ρ c 5).trans ((region0_SQ (V1 m ρ) c).trans (congrArg SQ (aGR_eq m ρ c)))

theorem W3_norm : W3 m ρ c (Proc.devRef .tc main_v7) = kNorm m c :=
  (host1_norm (W2 m ρ c)).trans (congrArg normOf (W2_sq m ρ c))

theorem W3_scal : W3 m ρ c (Proc.devRef .tc main_v22) = kScal m c := by
  refine (host1_scal (W2 m ρ c)).trans ?_
  rw [W2_sq, W2_args m ρ c main_arg9 (by decide), W2_args m ρ c main_arg8 (by decide)]
  rfl

theorem W3_grad : W3 m ρ c (Proc.devRef .tc main_v5_0) = kGrad m c :=
  (W3_of m ρ c main_v5_0 (by decide)).trans (W2_grad m ρ c)

theorem in1_0 : V3 m ρ c (Pipeline.arrRef spec1 0) = kScal m c := W3_scal m ρ c
theorem in1_1 : V3 m ρ c (Pipeline.arrRef spec1 1) = kGrad m c := W3_grad m ρ c
theorem in1_2 : V3 m ρ c (Pipeline.arrRef spec1 2) = m ((c : Thread nD τ).loc main_arg5) := W3_args m ρ c main_arg5 (by decide)
theorem in1_3 : V3 m ρ c (Pipeline.arrRef spec1 3) = m ((c : Thread nD τ).loc main_arg6) := W3_args m ρ c main_arg6 (by decide)
theorem in1_4 : V3 m ρ c (Pipeline.arrRef spec1 4) = m ((c : Thread nD τ).loc main_arg7) := W3_args m ρ c main_arg7 (by decide)

theorem W4_WN : W4 m ρ c (Proc.devRef .tc main_v23_0) = kWN m c := by
  refine (W4_arr m ρ c 5).trans ((region1_WN (V3 m ρ) c).trans ?_)
  rw [in1_0, in1_1, in1_2, in1_3, in1_4]; rfl

theorem W4_WD : W4 m ρ c (Proc.devRef .tc main_v23_1) = kWD m c := by
  refine (W4_arr m ρ c 6).trans ((region1_WD (V3 m ρ) c).trans ?_)
  rw [in1_0, in1_1, in1_2, in1_3, in1_4]; rfl

theorem W4_MN : W4 m ρ c (Proc.devRef .tc main_v23_2) = kMN m c := by
  refine (W4_arr m ρ c 7).trans ((region1_MN (V3 m ρ) c).trans ?_)
  rw [in1_0, in1_1, in1_3]; rfl

theorem W4_VN : W4 m ρ c (Proc.devRef .tc main_v23_3) = kVN m c := by
  refine (W4_arr m ρ c 8).trans ((region1_VN (V3 m ρ) c).trans ?_)
  rw [in1_0, in1_1, in1_4]; rfl

theorem W4_AM : W4 m ρ c (Proc.devRef .tc main_v23_4) = AM (kWN m c) := by
  refine (W4_arr m ρ c 9).trans ((region1_AM (V3 m ρ) c).trans ?_)
  rw [in1_0, in1_1, in1_2, in1_3, in1_4]; rfl

theorem W5_hist : W5 m ρ c (Proc.devRef .tc main_v27) = kHist m c := by
  refine (host2_hist (W4 m ρ c)).trans ?_
  rw [W4_AM, W4_args m ρ c main_arg10 (by decide)]
  rfl

theorem W6_exp : W6 m ρ c (Proc.devRef .tc main_v40) = kExp m c :=
  (host2_exp (W4 m ρ c)).trans (congrArg (fun h => expOf (amaxOf h)) (W5_hist m ρ c))

theorem W7_scale : W7 m ρ c (Proc.devRef .tc main_v42) = pow2Of (kExp m c) :=
  (host2_scale (W6 m ρ c)).trans (congrArg pow2Of (W6_exp m ρ c))

theorem W7_inv : W7 m ρ c (Proc.devRef .tc main_v45) = pow2Of (Host.negf (kExp m c)) :=
  (host2_inv (W6 m ρ c)).trans (congrArg (fun e => pow2Of (Host.negf e)) (W6_exp m ρ c))

/-- From the second call's exit to the third call no host operation writes a buffer outside its stretch's list. -/
theorem W7_to_W4 (r : Ref sig .tc) (h : r ∉ hostOps2_W) (h' : r ∉ hostOps2_1_W) (h'' : r ∉ hostOps2_2_W) :
    W7 m ρ c (Proc.devRef .tc r) = W4 m ρ c (Proc.devRef .tc r) :=
  (W7_of m ρ c r h'').trans ((W6_of m ρ c r h').trans (W5_of m ρ c r h))

theorem W7_WN : W7 m ρ c (Proc.devRef .tc main_v23_0) = kWN m c :=
  (W7_to_W4 m ρ c main_v23_0 (by decide) (by decide) (by decide)).trans (W4_WN m ρ c)

theorem in2_0 : V7 m ρ c (Pipeline.arrRef spec2 0) = pow2Of (Host.negf (kExp m c)) := W7_inv m ρ c
theorem in2_1 : V7 m ρ c (Pipeline.arrRef spec2 1) = kWN m c := W7_WN m ρ c

/-! ## The results -/

theorem out_codes : W8 m ρ c (Proc.devRef .tc main_v46_0) = CODES (pow2Of (Host.negf (kExp m c))) (kWN m c) := by
  refine (W8_arr m ρ c 2).trans ((region2_codes (V7 m ρ) c).trans ?_)
  rw [in2_0, in2_1]

theorem out_codes_t : W8 m ρ c (Proc.devRef .tc main_v46_1) = CODEST (pow2Of (Host.negf (kExp m c))) (kWN m c) := by
  refine (W8_arr m ρ c 3).trans ((region2_codes_t (V7 m ρ) c).trans ?_)
  rw [in2_0, in2_1]

theorem out_WN : W8 m ρ c (Proc.devRef .tc main_v23_0) = kWN m c :=
  (W8_of m ρ c main_v23_0 (by decide)).trans (W7_WN m ρ c)

theorem out_WD : W8 m ρ c (Proc.devRef .tc main_v23_1) = kWD m c :=
  (W8_of_ne m ρ c main_v23_1 (by decide)).trans ((W7_to_W4 m ρ c main_v23_1 (by decide) (by decide) (by decide)).trans (W4_WD m ρ c))

theorem out_MN : W8 m ρ c (Proc.devRef .tc main_v23_2) = kMN m c :=
  (W8_of_ne m ρ c main_v23_2 (by decide)).trans ((W7_to_W4 m ρ c main_v23_2 (by decide) (by decide) (by decide)).trans (W4_MN m ρ c))

theorem out_VN : W8 m ρ c (Proc.devRef .tc main_v23_3) = kVN m c :=
  (W8_of_ne m ρ c main_v23_3 (by decide)).trans ((W7_to_W4 m ρ c main_v23_3 (by decide) (by decide) (by decide)).trans (W4_VN m ρ c))

theorem out_hist : W8 m ρ c (Proc.devRef .tc main_v27) = kHist m c :=
  (W8_of_ne m ρ c main_v27 (by decide)).trans ((W7_of m ρ c main_v27 (by decide)).trans ((W6_of m ρ c main_v27 (by decide)).trans (W5_hist m ρ c)))

theorem out_scale : W8 m ρ c (Proc.devRef .tc main_v42) = pow2Of (kExp m c) :=
  (W8_of_ne m ρ c main_v42 (by decide)).trans (W7_scale m ρ c)

theorem out_norm : W8 m ρ c (Proc.devRef .tc main_v7) = kNorm m c :=
  (W8_of_ne m ρ c main_v7 (by decide)).trans ((W7_to_W4 m ρ c main_v7 (by decide) (by decide) (by decide)).trans
    ((W4_of_ne m ρ c main_v7 (by decide)).trans (W3_norm m ρ c)))

theorem out_grad : W8 m ρ c (Proc.devRef .tc main_v5_0) = kGrad m c :=
  (W8_of_ne m ρ c main_v5_0 (by decide)).trans ((W7_to_W4 m ρ c main_v5_0 (by decide) (by decide) (by decide)).trans
    ((W4_of m ρ c main_v5_0 (by decide)).trans (W3_grad m ρ c)))

end Cert.KernelIdeal.Hand

end
-- ==== Proof.RefRegion.lean ====
/- What the reference's one region leaves: the codes themselves, since over the extended reals a change of format
   changes nothing. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal Cert.ReferenceIdeal.Gen Cert.ReferenceIdeal.Value

variable (m : (ℓ : Loc nD τ sig) → Buf (Elt Ideal) ℓ) (c : Dev nD)

/-- Every window's block index at the one point. -/
theorem idx : ∀ t : Fin cfg0.N, win0_0.index t = ![0, 0, 0, 0] ∧ win0_1.index t = ![0, 0, 0, 0] :=
  (by decide +kernel : ∀ t : Fin grid0.N, _)

theorem iblk_x : iblk m c 0 t0_0 = m ((c : Thread nD τ).loc main_arg0) := by
  blk_ext! [iblk, V, idx t0_0]

theorem iblk_dy : iblk m c 1 t0_0 = m ((c : Thread nD τ).loc main_arg2) := by
  blk_ext! [iblk, V, idx t0_0]

theorem reg_x : reg_main_v0_0 m c = (show FVec Ideal S3x4x3584x4096 .bf16 from fun i => (m ((c.tc : Thread nD τ).loc main_arg0) : FVec Ideal S3x4x3584x4096 .fp8e4m3) i) := by
  unfold reg_main_v0_0
  refine (dats m 0 c).arrAt_eq_of_after_last 2 t0_0 (by decide +kernel) _ fun j => ?_
  blk_simp
  rw [after0_2]
  unfold out0_2
  frame_out
  rw [iblk_x]
  rfl

theorem reg_dy : reg_main_v0_1 m c = (show FVec Ideal S3x4x3584x2880 .bf16 from fun i => (m ((c.tc : Thread nD τ).loc main_arg2) : FVec Ideal S3x4x3584x2880 .fp8e5m2) i) := by
  unfold reg_main_v0_1
  refine (dats m 0 c).arrAt_eq_of_after_last 3 t0_0 (by decide +kernel) _ fun j => ?_
  blk_simp
  rw [after0_3]
  unfold out0_3
  frame_out
  rw [iblk_dy]
  rfl

end Cert.ReferenceIdeal.Hand

end
-- ==== Proof.RefValues.lean ====
/- The reference's results as formulas over its arguments, and the formulas read at an index. -/
module

public import proofs.«01_k».proof.Proof.RefRegion

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## The formulas -/

/-- The gradient: the dequantised operands' product over microbatches and tokens, on the master gradient. -/
def rGrad (x : FVec Ideal S3x4x3584x4096 .bf16) (dy : FVec Ideal S3x4x3584x2880 .bf16) (xs ds : FVec Ideal S3x4 .f32)
    (mg : FVec Ideal S3x2880x4096 .f32) : FVec Ideal S3x2880x4096 .f32 :=
  addf mg (Host.dotGeneral dot_S3x4x3584x2880_S3x4x3584x4096_S3x2880x4096_12_12_3_3_0_0 none
    (mulf dy (broadcastInDim S3x4x3584x2880 ![0, 1, 2, 3] bcast_S3x4x1x1_S3x4x3584x2880_0_1_2_3 (broadcastInDim S3x4x1x1 ![0, 1] bcast_S3x4_S3x4x1x1_0_1 (truncf .bf16 ds bitsLt_bf16_f32))))
    (mulf x (broadcastInDim S3x4x3584x4096 ![0, 1, 2, 3] bcast_S3x4x1x1_S3x4x3584x4096_0_1_2_3 (broadcastInDim S3x4x1x1 ![0, 1] bcast_S3x4_S3x4x1x1_0_1 (truncf .bf16 xs bitsLt_bf16_f32)))))

/-- Its norm. -/
def rNorm (G : FVec Ideal S3x2880x4096 .f32) : FVec Ideal S_ .f32 :=
  Host.sqrt (Host.reduceAdd (mulf G G) (constant S_ .f32 0x00000000#32) reducesTo_S3x2880x4096_S_d0_1_2 h_S_)

/-- The clipping factor. -/
def rClip (norm mx : FVec Ideal S_ .f32) : FVec Ideal S_ .f32 :=
  minimumf (constant S_ .f32 0x3F800000#32) (Host.divf mx (addf norm (constant S_ .f32 0x358637BD#32)))

/-- The clipped gradient. -/
def rGC (G : FVec Ideal S3x2880x4096 .f32) (clip : FVec Ideal S_ .f32) : FVec Ideal S3x2880x4096 .f32 :=
  mulf G (broadcastInDim S3x2880x4096 ![] bcast_S_S3x2880x4096 clip)

/-- The learning rate over the first moment's bias correction. -/
def rAlr (step : IVec S_ 32) : FVec Ideal S_ .f32 :=
  Host.divf (constant S_ .f32 0x3A83126F#32) (subf (constant S_ .f32 0x3F800000#32) (Host.powf (constant S_ .f32 0x3F666666#32) (sitofp .f32 step)))

/-- The second moment's bias correction. -/
def rBc2 (step : IVec S_ 32) : FVec Ideal S_ .f32 :=
  subf (constant S_ .f32 0x3F800000#32) (Host.powf (constant S_ .f32 0x3F733333#32) (sitofp .f32 step))

def rMN (gc M : FVec Ideal S3x2880x4096 .f32) : FVec Ideal S3x2880x4096 .f32 :=
  addf (mulf (broadcastInDim S3x2880x4096 ![] bcast_S_S3x2880x4096 (constant S_ .f32 0x3F666666#32)) M)
    (mulf (broadcastInDim S3x2880x4096 ![] bcast_S_S3x2880x4096 (constant S_ .f32 0x3DCCCCCD#32)) gc)

def rVN (gc V : FVec Ideal S3x2880x4096 .f32) : FVec Ideal S3x2880x4096 .f32 :=
  addf (mulf (broadcastInDim S3x2880x4096 ![] bcast_S_S3x2880x4096 (constant S_ .f32 0x3F733333#32)) V)
    (mulf (mulf (broadcastInDim S3x2880x4096 ![] bcast_S_S3x2880x4096 (constant S_ .f32 0x3D4CCCCD#32)) gc) gc)

/-- The weights' changes, over the new moments. -/
def rWD (alr bc2 : FVec Ideal S_ .f32) (mn vn W : FVec Ideal S3x2880x4096 .f32) : FVec Ideal S3x2880x4096 .f32 :=
  subf (mulf (broadcastInDim S3x2880x4096 ![] bcast_S_S3x2880x4096 (constant S_ .f32 0xB8D1B717#32)) W)
    (Host.divf (mulf (broadcastInDim S3x2880x4096 ![] bcast_S_S3x2880x4096 alr) mn)
      (addf (Host.divf (Host.sqrt vn) (broadcastInDim S3x2880x4096 ![] bcast_S_S3x2880x4096 (Host.sqrt bc2)))
        (broadcastInDim S3x2880x4096 ![] bcast_S_S3x2880x4096 (constant S_ .f32 0x322BCC77#32))))

/-- The matrices' largest magnitudes. -/
def rMax (w : FVec Ideal S3x2880x4096 .f32) : FVec Ideal S3 .f32 :=
  Host.reduce FloatOps.maximumf (Host.absf w) (constant S_ .f32 0xFF800000#32) reducesTo_S3x2880x4096_S3_d1_2 h_S_

def rHist (am : FVec Ideal S3 .f32) (hist : FVec Ideal S3x16 .f32) : FVec Ideal S3x16 .f32 :=
  concatenate S3x16 1 [⟨S3x1, broadcastInDim S3x1 ![0] bcast_S3_S3x1_0 am⟩,
    ⟨S3x15, extractStridedSlice S3x15 ![0, 0] hist slices_S3x16_S3x15_0_0⟩] concatenates_S3x1_S3x15_S3x16_d1

def rAmax (h : FVec Ideal S3x16 .f32) : FVec Ideal S3 .f32 :=
  Host.reduce FloatOps.maximumf h (constant S_ .f32 0xFF800000#32) reducesTo_S3x16_S3_d1 h_S_

def rExp (a : FVec Ideal S3 .f32) : FVec Ideal S3 .f32 :=
  select (cmpf .oeq a (broadcastInDim S3 ![] bcast_S_S3 (constant S_ .f32 0x00000000#32)))
    (broadcastInDim S3 ![] bcast_S_S3 (sitofp .f32 (constantI S_ 32 0#32)))
    (addf (Host.floor (Host.divf (Host.log (mulf a (broadcastInDim S3 ![] bcast_S_S3 (constant S_ .f32 0x3B124925#32))))
      (broadcastInDim S3 ![] bcast_S_S3 (Host.log (constant S_ .f32 0x40000000#32))))) (broadcastInDim S3 ![] bcast_S_S3 (constant S_ .f32 0x3F800000#32)))

def rPow (e : FVec Ideal S3 .f32) : FVec Ideal S3 .f32 := Host.powf (broadcastInDim S3 ![] bcast_S_S3 (constant S_ .f32 0x40000000#32)) e

/-- The codes. -/
def rCodes (inv : FVec Ideal S3 .f32) (w : FVec Ideal S3x2880x4096 .f32) : FVec Ideal S3x2880x4096 .fp8e4m3 :=
  Host.convertf .fp8e4m3 (minimumf (broadcastInDim S3x2880x4096 ![] bcast_S_S3x2880x4096 (id (constant S_ .f32 0x43E00000#32)))
    (maximumf (broadcastInDim S3x2880x4096 ![] bcast_S_S3x2880x4096 (id (constant S_ .f32 0xC3E00000#32)))
      (mulf w (broadcastInDim S3x2880x4096 ![0, 1, 2] bcast_S3x1x1_S3x2880x4096_0_1_2 (broadcastInDim S3x1x1 ![0] bcast_S3_S3x1x1_0 inv)))))

/-- The transposed codes. -/
def rCodesT (cd : FVec Ideal S3x2880x4096 .fp8e4m3) : FVec Ideal S3x4096x2880 .fp8e4m3 :=
  transpose S3x4096x2880 [0, 2, 1] cd transposes_S3x2880x4096_S3x4096x2880_0_2_1

/-! ## Read at an index -/

theorem rGrad_at (x : FVec Ideal S3x4x3584x4096 .bf16) (dy : FVec Ideal S3x4x3584x2880 .bf16) (xs ds : FVec Ideal S3x4 .f32)
    (mg : FVec Ideal S3x2880x4096 .f32) (n : Fin 3) (f : Fin 2880) (d : Fin 4096) :
    rGrad x dy xs ds mg (ix3 n f d) = mg (ix3 n f d)
      + ∑ g : Fin 4, ∑ t : Fin 3584, dy (ix4 n g t f) * ds (ix2 n g) * (x (ix4 n g t d) * xs (ix2 n g)) := by
  pointwise [rGrad]

theorem rNorm_at (G : FVec Ideal S3x2880x4096 .f32) :
    rNorm G ix0 = Ideal.sqrt (Ideal.ofBits .f32 0x00000000#32 + ∑ n : Fin 3, ∑ f : Fin 2880, ∑ d : Fin 4096, G (ix3 n f d) * G (ix3 n f d)) := by
  pointwise [rNorm]

theorem rMN_at (G : FVec Ideal S3x2880x4096 .f32) (clip : FVec Ideal S_ .f32) (M : FVec Ideal S3x2880x4096 .f32) (n : Fin 3) (f : Fin 2880) (d : Fin 4096) :
    rMN (rGC G clip) M (ix3 n f d) = Ideal.ofBits .f32 0x3F666666#32 * M (ix3 n f d) + Ideal.ofBits .f32 0x3DCCCCCD#32 * (G (ix3 n f d) * clip ix0) := by
  pointwise [rMN, rGC]

theorem rVN_at (G : FVec Ideal S3x2880x4096 .f32) (clip : FVec Ideal S_ .f32) (V : FVec Ideal S3x2880x4096 .f32) (n : Fin 3) (f : Fin 2880) (d : Fin 4096) :
    rVN (rGC G clip) V (ix3 n f d) = Ideal.ofBits .f32 0x3F733333#32 * V (ix3 n f d)
      + Ideal.ofBits .f32 0x3D4CCCCD#32 * (G (ix3 n f d) * clip ix0) * (G (ix3 n f d) * clip ix0) := by
  pointwise [rVN, rGC]

theorem rWD_at (alr bc2 : FVec Ideal S_ .f32) (mn vn W : FVec Ideal S3x2880x4096 .f32) (n : Fin 3) (f : Fin 2880) (d : Fin 4096) :
    rWD alr bc2 mn vn W (ix3 n f d) = Ideal.ofBits .f32 0xB8D1B717#32 * W (ix3 n f d)
      - Ideal.div (alr ix0 * mn (ix3 n f d)) (Ideal.div (Ideal.sqrt (vn (ix3 n f d))) (Ideal.sqrt (bc2 ix0)) + Ideal.ofBits .f32 0x322BCC77#32) := by
  pointwise [rWD]

theorem rCodes_at (inv : FVec Ideal S3 .f32) (w : FVec Ideal S3x2880x4096 .f32) (n : Fin 3) (f : Fin 2880) (d : Fin 4096) :
    rCodes inv w (ix3 n f d) = min (Ideal.ofBits .f32 0x43E00000#32) (max (Ideal.ofBits .f32 0xC3E00000#32) (w (ix3 n f d) * inv (ix1 n))) := by
  pointwise [rCodes]
  rfl

theorem rCodesT_at (cd : FVec Ideal S3x2880x4096 .fp8e4m3) (n : Fin 3) (f : Fin 2880) (d : Fin 4096) :
    rCodesT cd (ix3 n d f) = cd (ix3 n f d) := by
  pointwise [rCodesT]

end Cert.ReferenceIdeal.Hand

end
-- ==== Proof.Sums.lean ====
/- Facts about sums and maxima of extended reals that the comparison rests on. No program occurs here. -/
module

public import Idealize.ShloMosaic.Lib.Pointwise
public import Idealize.ShloMosaic.PureOps.Reduce

@[expose] public section

set_option maxRecDepth 16384

noncomputable section

namespace Cert.Hand

open Idealize.ShloMosaic

/-- A sum times a nonnegative real is the sum of the products: over the extended reals the factor must be neither
    negative nor infinite. -/
theorem sum_mul_of_nonneg {ι : Type} (S : Finset ι) (f : ι → EReal) {s : EReal} (h0 : 0 ≤ s) (ht : s ≠ ⊤) :
    (∑ i ∈ S, f i) * s = ∑ i ∈ S, f i * s := by
  classical
  induction S using Finset.induction_on with
  | empty => simp
  | insert a S ha ih =>
    rw [Finset.sum_insert ha, Finset.sum_insert ha, ← ih, mul_comm, EReal.left_distrib_of_nonneg_of_ne_top h0 ht,
      mul_comm s, mul_comm s]

/-- A microbatch's product scaled by both scales is the product of the scaled operands. -/
theorem scaled_dot {ι : Type} [Fintype ι] (dy x : ι → EReal) {xs ds : EReal} (hx : 0 ≤ xs) (hx' : xs ≠ ⊤) (hd : 0 ≤ ds)
    (hd' : ds ≠ ⊤) : (∑ t, dy t * x t) * (xs * ds) = ∑ t, dy t * ds * (x t * xs) := by
  have ht : xs * ds ≠ ⊤ := by
    induction xs using EReal.rec with
    | bot => simp at hx
    | top => exact absurd rfl hx'
    | coe a =>
      induction ds using EReal.rec with
      | bot => simp at hd
      | top => exact absurd rfl hd'
      | coe b => rw [← EReal.coe_mul]; exact EReal.coe_ne_top _
  rw [sum_mul_of_nonneg _ _ (mul_nonneg hx hd) ht]
  refine Finset.sum_congr rfl fun t _ => ?_
  rw [mul_comm xs ds, mul_mul_mul_comm]

/-- Summing a 2880 × 4096 array through 8 column tiles of four groups of 128 columns, each group folded onto 8 rows, is
    summing it. -/
theorem sum_folded (q : Fin 2880 → Fin 4096 → EReal) :
    (∑ j : Fin 8, ∑ a : Fin 8, ∑ b : Fin 128,
      ((∑ k : Fin 360, q ⟨k * 8 + a, by omega⟩ ⟨j * 512 + b, by omega⟩)
        + (∑ k : Fin 360, q ⟨k * 8 + a, by omega⟩ ⟨j * 512 + (128 + b), by omega⟩)
        + (∑ k : Fin 360, q ⟨k * 8 + a, by omega⟩ ⟨j * 512 + (256 + b), by omega⟩)
        + (∑ k : Fin 360, q ⟨k * 8 + a, by omega⟩ ⟨j * 512 + (384 + b), by omega⟩)))
      = ∑ f, ∑ d, q f d := by
  have hrow : ∀ c : Fin 4096, ∑ a : Fin 8, ∑ k : Fin 360, q ⟨k * 8 + a, by omega⟩ c = ∑ f, q f c := fun c => by
    rw [Fin.sum_univ_tiles 360 8 rfl (fun f => q f c), Finset.sum_comm]
  have hcol : ∀ f : Fin 2880, ∑ d, q f d = ∑ j : Fin 8,
      ((∑ b : Fin 128, q f ⟨j * 512 + b, by omega⟩) + (∑ b : Fin 128, q f ⟨j * 512 + (128 + b), by omega⟩)
        + (∑ b : Fin 128, q f ⟨j * 512 + (256 + b), by omega⟩) + (∑ b : Fin 128, q f ⟨j * 512 + (384 + b), by omega⟩)) := fun f => by
    rw [Fin.sum_univ_tiles 8 512 rfl (q f)]
    refine Finset.sum_congr rfl fun j _ => ?_
    rw [Fin.sum_univ_tiles 4 128 rfl, Fin.sum_univ_four]
    simp [Nat.add_comm, Nat.add_left_comm]
  simp only [hcol]
  rw [Finset.sum_comm (s := (Finset.univ : Finset (Fin 2880)))]
  refine Finset.sum_congr rfl fun j _ => ?_
  simp only [Finset.sum_add_distrib]
  have hgrp : ∀ u : Fin 128 → Fin 4096, ∑ a : Fin 8, ∑ b : Fin 128, ∑ k : Fin 360, q ⟨k * 8 + a, by omega⟩ (u b)
      = ∑ f, ∑ b, q f (u b) := fun u => by
    rw [Finset.sum_comm]
    simp only [hrow]
    rw [Finset.sum_comm]
  rw [hgrp fun b => ⟨j * 512 + b, by omega⟩, hgrp fun b => ⟨j * 512 + (128 + b), by omega⟩,
    hgrp fun b => ⟨j * 512 + (256 + b), by omega⟩, hgrp fun b => ⟨j * 512 + (384 + b), by omega⟩]

/-- A left fold by `max` is below `z` exactly when its start and every element are. -/
theorem foldl_max_le {ι : Type} (f : ι → EReal) (z : EReal) : ∀ (l : List ι) (init : EReal),
    l.foldl (fun r n => max r (f n)) init ≤ z ↔ init ≤ z ∧ ∀ n ∈ l, f n ≤ z
  | [], init => by simp
  | a :: l, init => by
    rw [List.foldl_cons, foldl_max_le f z l]
    simp [and_assoc]

/-- A host reduction by the maximum is below `z` exactly when its start and every element that reduces into the result
    index are. -/
theorem reduce_max_le {s t u : Shape} {axes : List (Fin s.rank)} (x : FVec Ideal s .f32) (init : FVec Ideal u .f32)
    (h : s.ReducesTo axes t) (hu : 0 < u.numel) (j : t.Idx) (z : EReal) :
    Host.reduce (FloatOps.maximumf (F := Ideal) (φ := .f32)) x init h hu j ≤ z
      ↔ init (Shape.Idx.first hu) ≤ z ∧ ∀ i, h.drop i = j → x i ≤ z := by
  unfold Host.reduce
  refine (foldl_max_le (fun n => x (s.rowMajor.symm n)) z _ _).trans (and_congr_right fun _ => ?_)
  constructor
  · intro H i hi
    have := H (s.rowMajor i) (by simp [hi])
    simpa using this
  · intro H n hn
    exact H _ (by simpa using hn)

end Cert.Hand

end
-- ==== Proof.Compare.lean ====
/- The kernel's formulas and the reference's agree. Neither program's run occurs here: every statement is about arrays. -/
module

public import proofs.«01_k».proof.Proof.Host
public import proofs.«01_k».proof.Proof.Region0
public import proofs.«01_k».proof.Proof.RefValues
public import proofs.«01_k».proof.Proof.Sums

@[expose] public section

set_option maxRecDepth 16384

noncomputable section

namespace Cert.Hand

open Idealize.ShloMosaic
open Cert.KernelIdeal Cert.KernelIdeal.Gen Cert.KernelIdeal.Hand
open Cert.ReferenceIdeal.Hand (rGrad rNorm rClip rAlr rBc2 rGrad_at rNorm_at)

/-! ## The gradient -/

theorem scales_at (xs ds : FVec Ideal S3x4 .f32) (n : Fin 3) (g : Fin 4) : scalesOf xs ds (ix2 n g) = xs (ix2 n g) * ds (ix2 n g) := by
  pointwise [scalesOf]

/-- One microbatch's scaled product is the product of the dequantised operands. -/
theorem mbTerm_eq (x : FVec Ideal S3x4x3584x4096 .fp8e4m3) (dy : FVec Ideal S3x4x3584x2880 .fp8e5m2) (xs ds : FVec Ideal S3x4 .f32)
    (hx : ∀ i, 0 ≤ xs i ∧ xs i ≠ ⊤) (hd : ∀ i, 0 ≤ ds i ∧ ds i ≠ ⊤) (n : Fin 3) (g : Fin 4) (f : Fin 2880) (d : Fin 4096) :
    mbTerm (scalesOf xs ds) x dy n g f d
      = ∑ t : Fin 3584, dy (ix4 n g t f) * ds (ix2 n g) * (x (ix4 n g t d) * xs (ix2 n g)) := by
  unfold mbTerm
  rw [scales_at]
  exact scaled_dot (fun t => dy (ix4 n g t f)) (fun t => x (ix4 n g t d)) (hx _).1 (hx _).2 (hd _).1 (hd _).2

/-- The accumulated gradient is the reference's contraction over microbatches and tokens. -/
theorem grad_eq (x : FVec Ideal S3x4x3584x4096 .fp8e4m3) (dy : FVec Ideal S3x4x3584x2880 .fp8e5m2) (xs ds : FVec Ideal S3x4 .f32)
    (mg : FVec Ideal S3x2880x4096 .f32) (hx : ∀ i, 0 ≤ xs i ∧ xs i ≠ ⊤) (hd : ∀ i, 0 ≤ ds i ∧ ds i ≠ ⊤) :
    GR (scalesOf xs ds) x dy mg = rGrad (fun i => x i) (fun i => dy i) xs ds mg := by
  funext i
  obtain ⟨n, f, d, rfl⟩ : ∃ (n : Fin 3) (f : Fin 2880) (d : Fin 4096), i = ix3 n f d := ⟨i 0, i 1, i 2, eq_ix3 i⟩
  refine Eq.trans ?_ (rGrad_at (fun i => x i) (fun i => dy i) xs ds mg n f d).symm
  rw [Fin.sum_univ_four]
  unfold GR
  dsimp only [ix3_0, ix3_1, ix3_2]
  rw [mbTerm_eq x dy xs ds hx hd, mbTerm_eq x dy xs ds hx hd, mbTerm_eq x dy xs ds hx hd, mbTerm_eq x dy xs ds hx hd]
  simp only [add_assoc]

/-! ## The norm -/

theorem norm_at (sq : FVec Ideal S3x8x8x128 .f32) : normOf sq ix0
    = Ideal.sqrt (Ideal.ofBits .f32 0x00000000#32 + ∑ n : Fin 3, ∑ j : Fin 8, ∑ a : Fin 8, ∑ b : Fin 128, sq (ix4 n j a b)) := by
  show Ideal.sqrt (Ideal.hostReduceAdd reducesTo_S3x8x8x128_S_d0_1_2_3 sq (Ideal.ofBits .f32 0x00000000#32) ix0) = _
  rw [Ideal.hostReduceAdd_total _ (fun b => b.elim0), sum_idx4]

/-- The folded squares of one matrix sum to its squares' sum. -/
theorem sq_sum (G : FVec Ideal S3x2880x4096 .f32) (n : Fin 3) :
    ∑ j : Fin 8, ∑ a : Fin 8, ∑ b : Fin 128, SQ G (ix4 n j a b) = ∑ f : Fin 2880, ∑ d : Fin 4096, G (ix3 n f d) * G (ix3 n f d) :=
  sum_folded fun f d => G (ix3 n f d) * G (ix3 n f d)

theorem norm_eq (G : FVec Ideal S3x2880x4096 .f32) : normOf (SQ G) = rNorm G := by
  funext i
  obtain rfl : i = ix0 := funext fun a => a.elim0
  rw [norm_at]
  refine Eq.trans ?_ (rNorm_at G).symm
  simp only [sq_sum]

/-! ## The scalars -/

theorem clip_eq (norm mx : FVec Ideal S_ .f32) : clipOf norm mx = rClip norm mx := rfl
theorem alr_eq (st : IVec S_ 32) : alrOf st = rAlr st := rfl
theorem bc2_eq (st : IVec S_ 32) : bc2Of st = rBc2 st := rfl

theorem scal0 (n mx : FVec Ideal S_ .f32) (st : IVec S_ 32) : scalOf n mx st (ix1 0) = clipOf n mx ix0 := by
  pointwise [scalOf]
theorem scal1 (n mx : FVec Ideal S_ .f32) (st : IVec S_ 32) : scalOf n mx st (ix1 1) = alrOf st ix0 := by
  pointwise [scalOf]
theorem scal2 (n mx : FVec Ideal S_ .f32) (st : IVec S_ 32) :
    scalOf n mx st (ix1 2) = Ideal.div (Ideal.ofBits .f32 0x3F800000#32) (Ideal.sqrt (bc2Of st ix0)) := by
  pointwise [scalOf]

theorem bc2_at (st : IVec S_ 32) : bc2Of st ix0
    = Ideal.ofBits .f32 0x3F800000#32 - Ideal.pow (Ideal.ofBits .f32 0x3F733333#32) (((st ix0).toInt : ℝ) : EReal) := rfl

/-- The decay of the second moment is a positive real other than one. -/
theorem beta2_real : ∃ b : ℝ, Ideal.ofBits .f32 0x3F733333#32 = (b : EReal) ∧ 0 < b ∧ b ≠ 1 := by
  refine ⟨_, by simp [Ideal.ofBits, Ideal.ieee]; rfl, ?_, ?_⟩
  · norm_num
  · norm_num

theorem one_real : Ideal.ofBits .f32 0x3F800000#32 = ((1 : ℝ) : EReal) := by
  simp [Ideal.ofBits, Ideal.ieee]
  rw [← EReal.coe_mul]
  norm_num

/-- The second moment's bias correction is not zero after at least one step. -/
theorem bc2_root_ne (st : IVec S_ 32) (h : st ix0 ≠ 0#32) : Ideal.sqrt (bc2Of st ix0) ≠ 0 := by
  obtain ⟨b, hb, hpos, hne⟩ := beta2_real
  have hz : (st ix0).toInt ≠ 0 := fun e => h (BitVec.eq_of_toInt_eq (by simpa using e))
  have hr : 1 - Real.rpow b ((st ix0).toInt : ℝ) ≠ 0 := by
    intro e
    have e1 : b ^ ((st ix0).toInt : ℝ) = 1 := by
      have : Real.rpow b ((st ix0).toInt : ℝ) = 1 := by linarith
      simpa using this
    rw [Real.rpow_intCast] at e1
    exact hz ((zpow_eq_one_iff_right₀ hpos.le hne).mp e1)
  rw [bc2_at, hb, one_real, Ideal.pow_coe_coe, ← EReal.coe_sub]
  generalize 1 - Real.rpow b ((st ix0).toInt : ℝ) = y at hr
  intro e
  rw [show Ideal.sqrt (y : EReal) = if y < 0 then ⊥ else ((Real.sqrt y : ℝ) : EReal) from rfl] at e
  split at e
  · simp at e
  · rename_i hy
    have := (Real.sqrt_eq_zero (not_lt.mp hy)).mp (by exact_mod_cast e)
    exact hr this

/-- Multiplying by the reciprocal root is dividing by the root. -/
theorem mul_recip (v y : EReal) (h : y ≠ 0) : v * Ideal.div (Ideal.ofBits .f32 0x3F800000#32) y = Ideal.div v y := by
  unfold Ideal.div
  rw [if_neg h, if_neg h, one_real, EReal.coe_one, one_mul]

end Cert.Hand

end
-- ==== Proof.CompareStep.lean ====
/- The step's formulas agree: moments, weights, maxima, codes. Every statement is about arrays. -/
module

public import proofs.«01_k».proof.Proof.Compare
public import proofs.«01_k».proof.Proof.Region1
public import proofs.«01_k».proof.Proof.Region1Max
public import proofs.«01_k».proof.Proof.Region2

@[expose] public section

set_option maxRecDepth 16384

noncomputable section

namespace Cert.Hand

open Idealize.ShloMosaic
open Cert.KernelIdeal Cert.KernelIdeal.Gen Cert.KernelIdeal.Hand
open Cert.ReferenceIdeal.Hand (rClip rAlr rBc2 rGC rMN rVN rWD rMax rCodes rCodesT rMN_at rVN_at rWD_at rCodes_at rCodesT_at)

theorem exists_ix3 {a b e : ℕ} (i : (⟨3, ![a, b, e]⟩ : Shape).Idx) : ∃ (n : Fin a) (f : Fin b) (d : Fin e), i = ix3 n f d :=
  ⟨i 0, i 1, i 2, eq_ix3 i⟩

/-! ## The moments and the weights -/

variable (norm mx : FVec Ideal S_ .f32) (st : IVec S_ 32) (G W M V : FVec Ideal S3x2880x4096 .f32)

theorem mn_eq : MN (scalOf norm mx st) G M = rMN (rGC G (rClip norm mx)) M := by
  funext i
  obtain ⟨n, f, d, rfl⟩ := exists_ix3 i
  refine Eq.trans ?_ (rMN_at G (rClip norm mx) M n f d).symm
  unfold MN mNew
  rw [scal0, clip_eq]

theorem vn_eq : VN (scalOf norm mx st) G V = rVN (rGC G (rClip norm mx)) V := by
  funext i
  obtain ⟨n, f, d, rfl⟩ := exists_ix3 i
  refine Eq.trans ?_ (rVN_at G (rClip norm mx) V n f d).symm
  unfold VN vNew
  rw [scal0, clip_eq]

theorem wd_eq (h : st ix0 ≠ 0#32) : WD (scalOf norm mx st) G W M V
    = rWD (rAlr st) (rBc2 st) (rMN (rGC G (rClip norm mx)) M) (rVN (rGC G (rClip norm mx)) V) W := by
  funext i
  obtain ⟨n, f, d, rfl⟩ := exists_ix3 i
  refine Eq.trans ?_ (rWD_at _ _ _ _ W n f d).symm
  rw [rMN_at, rVN_at]
  unfold WD wDelta mNew vNew
  rw [scal0, scal1, scal2, mul_recip _ _ (bc2_root_ne st h), clip_eq, alr_eq, bc2_eq]

theorem wn_eq (h : st ix0 ≠ 0#32) : WN (scalOf norm mx st) G W M V
    = addf W (rWD (rAlr st) (rBc2 st) (rMN (rGC G (rClip norm mx)) M) (rVN (rGC G (rClip norm mx)) V) W) := by
  rw [← wd_eq norm mx st G W M V h]
  rfl

/-! ## The largest magnitudes -/

/-- Reducing the last three axes of four keeps the first coordinate. -/
theorem drop4 (i : S3x32x8x128.Idx) (j : S3.Idx) : reducesTo_S3x32x8x128_S3_d1_2_3.drop i = j ↔ i 0 = j 0 := by
  constructor
  · rintro rfl; rfl
  · intro e
    funext b
    match b with
    | ⟨0, _⟩ => exact e

/-- Reducing the last two axes of three keeps the first coordinate. -/
theorem drop3 (i : S3x2880x4096.Idx) (j : S3.Idx) : Cert.ReferenceIdeal.Gen.facts.reducesTo_S3x2880x4096_S3_d1_2.drop i = j ↔ i 0 = j 0 := by
  constructor
  · rintro rfl; rfl
  · intro e
    funext b
    match b with
    | ⟨0, _⟩ => exact e

/-- The maxima over a matrix by column tiles of 128 and 8 residues of rows are the maxima over the matrix. -/
theorem max_eq (w : FVec Ideal S3x2880x4096 .f32) : maxOf (AM w) = rMax w := by
  funext j
  refine eq_of_forall_ge_iff fun z => ?_
  unfold maxOf rMax
  refine (reduce_max_le _ _ _ _ j z).trans (Iff.trans ?_ (reduce_max_le _ _ _ _ j z).symm)
  refine and_congr_right fun h0 => ?_
  constructor
  · intro H i hi
    have hi' := (drop3 i j).mp hi
    obtain ⟨n, f, d, rfl⟩ := exists_ix3 i
    have h := H (ix4 n ⟨d.val / 128, by omega⟩ ⟨f.val % 8, by omega⟩ ⟨d.val % 128, by omega⟩) ((drop4 _ j).mpr hi')
    unfold AM at h
    have h2 := ((Finset.fold_max_le z).mp h).2 ⟨f.val / 8, by omega⟩ (Finset.mem_univ _)
    have ef : (⟨f.val / 8 * 8 + f.val % 8, by omega⟩ : Fin 2880) = f := Fin.ext (by dsimp only; omega)
    have ed : (⟨d.val / 128 * 128 + d.val % 128, by omega⟩ : Fin 4096) = d := Fin.ext (by dsimp only; omega)
    have h3 : FloatOps.absf (F := Ideal) (φ := .f32) (w (ix3 n ⟨f.val / 8 * 8 + f.val % 8, by omega⟩ ⟨d.val / 128 * 128 + d.val % 128, by omega⟩)) ≤ z := h2
    rw [ef, ed] at h3
    exact h3
  · intro H i hi
    have hi' := (drop4 i j).mp hi
    unfold AM
    exact (Finset.fold_max_le z).mpr ⟨h0, fun k _ => H _ ((drop3 _ j).mpr hi')⟩

/-! ## The codes -/

theorem codes_eq (inv : FVec Ideal S3 .f32) (w : FVec Ideal S3x2880x4096 .f32) : CODES inv w = rCodes inv w := by
  funext i
  obtain ⟨n, f, d, rfl⟩ := exists_ix3 i
  exact (rCodes_at inv w n f d).symm

theorem codes_t_eq (inv : FVec Ideal S3 .f32) (w : FVec Ideal S3x2880x4096 .f32) : CODEST inv w = rCodesT (rCodes inv w) := by
  funext i
  obtain ⟨n, d, f, rfl⟩ := exists_ix3 i
  exact ((rCodesT_at _ n f d).trans (rCodes_at inv w n f d)).symm

end Cert.Hand

end
-- ==== Proof.RefOut.lean ====
/- The reference's run, its ten results as formulas over its arguments. -/
module

public import proofs.«01_k».proof.Proof.RefValues

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (c : Dev nD)

/-! ## The formulas over the arguments -/

def oGrad : FVec Ideal S3x2880x4096 .f32 :=
  rGrad (fun i => (m ((c.tc : Thread nD τ).loc main_arg0) : FVec Ideal S3x4x3584x4096 .fp8e4m3) i)
    (fun i => (m ((c.tc : Thread nD τ).loc main_arg2) : FVec Ideal S3x4x3584x2880 .fp8e5m2) i)
    (m ((c.tc : Thread nD τ).loc main_arg1)) (m ((c.tc : Thread nD τ).loc main_arg3)) (m ((c.tc : Thread nD τ).loc main_arg4))

def oGC : FVec Ideal S3x2880x4096 .f32 := rGC (oGrad m c) (rClip (rNorm (oGrad m c)) (m ((c.tc : Thread nD τ).loc main_arg9)))

def oMN : FVec Ideal S3x2880x4096 .f32 := rMN (oGC m c) (m ((c.tc : Thread nD τ).loc main_arg6))

def oVN : FVec Ideal S3x2880x4096 .f32 := rVN (oGC m c) (m ((c.tc : Thread nD τ).loc main_arg7))

def oWD : FVec Ideal S3x2880x4096 .f32 :=
  rWD (rAlr (m ((c.tc : Thread nD τ).loc main_arg8))) (rBc2 (m ((c.tc : Thread nD τ).loc main_arg8))) (oMN m c) (oVN m c) (m ((c.tc : Thread nD τ).loc main_arg5))

def oWN : FVec Ideal S3x2880x4096 .f32 := addf (F := Ideal) (φ := .f32) (m ((c.tc : Thread nD τ).loc main_arg5)) (oWD m c)

def oHist : FVec Ideal S3x16 .f32 := rHist (rMax (oWN m c)) (m ((c.tc : Thread nD τ).loc main_arg10))

def oExp : FVec Ideal S3 .f32 := rExp (rAmax (oHist m c))

/-! ## The run's terms are these -/

theorem v10_eq : res_main_v10 (exitV m c) = oGrad m c := by
  unfold res_main_v10
  rw [exit_main_arg4, exit_main_arg3, exit_main_arg1, exit_main_v0_0, exit_main_v0_1, reg_x, reg_dy]
  rfl

theorem v18_eq : res_main_v18 (exitV m c) = oGC m c := by
  unfold res_main_v18
  rw [v10_eq, exit_main_arg9]
  rfl

theorem v30_eq : res_main_v30 (exitV m c) = sitofp (F := Ideal) .f32 (m ((c.tc : Thread nD τ).loc main_arg8) : IVec S_ 32) := by
  unfold res_main_v30
  rw [exit_main_arg8]

theorem v48_eq : res_main_v48 (exitV m c) = oWN m c := by
  unfold res_main_v48
  rw [v18_eq, v30_eq, exit_main_arg5, exit_main_arg6, exit_main_arg7]
  rfl

theorem v54_eq : res_main_v54 (exitV m c) = rAmax (oHist m c) := by
  unfold res_main_v54
  rw [v48_eq]
  have e := exit_main_arg10 m c
  show rAmax (rHist (rMax (oWN m c)) (exitV m c (Proc.devRef .tc main_arg10))) = _
  rw [e]
  rfl

theorem v66_eq : res_main_v66 (exitV m c) = oExp m c := by
  unfold res_main_v66
  rw [v54_eq]
  rfl

/-- Every weakly fair execution of the reference ends with its results at the formulas and its arguments unchanged. -/
theorem run_formulas (ρ : Dev nD → PrngReg) :
    θ_run defs (onTc (τ := τ) (main (F := Ideal))) ⟨m, fun _ => 0, ρ⟩ fun r => ∀ c : Dev nD,
      r.2.mem ((c.tc : Thread nD τ).loc main_v10) = oGrad m c
      ∧ r.2.mem ((c.tc : Thread nD τ).loc main_v13) = rNorm (oGrad m c)
      ∧ r.2.mem ((c.tc : Thread nD τ).loc main_v48) = oWN m c
      ∧ r.2.mem ((c.tc : Thread nD τ).loc main_v47) = oWD m c
      ∧ r.2.mem ((c.tc : Thread nD τ).loc main_v23) = oMN m c
      ∧ r.2.mem ((c.tc : Thread nD τ).loc main_v29) = oVN m c
      ∧ r.2.mem ((c.tc : Thread nD τ).loc main_v76) = rCodes (rPow (Host.negf (oExp m c))) (oWN m c)
      ∧ r.2.mem ((c.tc : Thread nD τ).loc main_v77) = rCodesT (rCodes (rPow (Host.negf (oExp m c))) (oWN m c))
      ∧ r.2.mem ((c.tc : Thread nD τ).loc main_v68) = rPow (oExp m c)
      ∧ r.2.mem ((c.tc : Thread nD τ).loc main_v53) = oHist m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run m ρ)
  obtain ⟨h0, h1, h2, h3, h4, h5, h6, h7, h8, h9, hargs⟩ := h c
  refine ⟨h0.trans (v10_eq m c), h1.trans ?_, h2.trans (v48_eq m c), h3.trans ?_, h4.trans ?_, h5.trans ?_, h6.trans ?_, h7.trans ?_,
    h8.trans ?_, h9.trans ?_, hargs⟩
  · rw [v10_eq]; rfl
  · rw [v18_eq, v30_eq, exit_main_arg5, exit_main_arg6, exit_main_arg7]; rfl
  · rw [v18_eq, exit_main_arg6]; rfl
  · rw [v18_eq, exit_main_arg7]; rfl
  · rw [v48_eq, v66_eq]; rfl
  · rw [v48_eq, v66_eq]; rfl
  · rw [v66_eq]; rfl
  · rw [v48_eq]
    have e := exit_main_arg10 m c
    show rHist (rMax (oWN m c)) (exitV m c (Proc.devRef .tc main_arg10)) = _
    rw [e]
    rfl

end Cert.ReferenceIdeal.Hand

end
-- ==== Proof.Precondition.lean ====
/- The precondition read at an index: the scales are nonnegative and finite, and the step is not zero. -/
module

public import proofs.«01_k».proof.Proof.Gen.Pre_tame
public import Idealize.ShloMosaic.Lib.Pointwise

@[expose] public section

set_option maxRecDepth 16384

noncomputable section

namespace Cert.Hand

open Idealize.ShloMosaic
open Cert.Pre_tame

/-- The word of a comparison is one exactly when the comparison holds. -/
theorem scale_of_word (a : EReal)
    (h : (FloatOps.cmpf (F := Ideal) (φ := .f32) .oge a (Ideal.ofBits .f32 0x00000000#32))
      &&& (FloatOps.cmpf (F := Ideal) (φ := .f32) .olt a (Ideal.ofBits .f32 0x7F800000#32)) = 1#1) : 0 ≤ a ∧ a ≠ ⊤ := by
  have h0 : Ideal.ofBits .f32 0x00000000#32 = 0 := by simp [Ideal.ofBits, Ideal.ieee]
  have h1 : Ideal.ofBits .f32 0x7F800000#32 = ⊤ := by simp [Ideal.ofBits, Ideal.ieee]
  rw [h0, h1] at h
  have h2 : BitVec.ofBool (decide (a ≥ 0)) &&& BitVec.ofBool (decide (a < ⊤)) = 1#1 := h
  by_cases ha : a ≥ 0
  · by_cases hb : a < ⊤
    · exact ⟨ha, hb.ne⟩
    · simp [hb] at h2
  · simp [ha] at h2

theorem step_of_word (b : BitVec 32) (h : Scalar.cmpi .ne b 0#32 = 1#1) : b ≠ 0#32 := by
  rintro rfl
  revert h
  decide

end Cert.Hand

end
-- ==== Proof.Algebraic.lean ====
/- Over the extended reals the kernel and the reference compute the same ten results. -/
module

public import proofs.«01_k».proof.Defs
public import proofs.«01_k».proof.Proof.Values
public import proofs.«01_k».proof.Proof.CompareStep
public import proofs.«01_k».proof.Proof.RefOut
public import proofs.«01_k».proof.Proof.Precondition
public import proofs.«01_k».proof.Proof.Gen.Kernel.Frame

@[expose] public section

set_option maxRecDepth 16384

noncomputable section

namespace Cert.Hand

open Idealize.ShloMosaic Idealize.ShloMosaic.TcCoe Idealize.SL.Sem
open Cert.KernelIdeal.Hand Cert.ReferenceIdeal.Hand

/-- A memory of the kernel, and one of the reference. -/
abbrev KMem : Type := ((ℓ : Loc Cert.KernelIdeal.nD Cert.KernelIdeal.τ Cert.KernelIdeal.sig) → Buf (Elt Ideal) ℓ)
abbrev RMem : Type := ((ℓ : Loc Cert.ReferenceIdeal.nD Cert.ReferenceIdeal.τ Cert.ReferenceIdeal.sig) → Buf (Elt Ideal) ℓ)

/-! ## The precondition on the kernel's arguments -/

/-- Scales that are nonnegative and finite. -/
def Tame (s : FVec Ideal Cert.KernelIdeal.S3x4 .f32) : Prop := ∀ i, 0 ≤ s i ∧ s i ≠ ⊤

theorem pre_x (m : KMem) (h : Cert.Pre_KernelIdeal_tame m) (c : Dev Cert.KernelIdeal.nD) :
    Tame (m ((c.tc : Thread Cert.KernelIdeal.nD Cert.KernelIdeal.τ).loc Cert.KernelIdeal.main_arg1)) :=
  fun i => scale_of_word _ (congrFun (h c).1 i)

theorem pre_d (m : KMem) (h : Cert.Pre_KernelIdeal_tame m) (c : Dev Cert.KernelIdeal.nD) :
    Tame (m ((c.tc : Thread Cert.KernelIdeal.nD Cert.KernelIdeal.τ).loc Cert.KernelIdeal.main_arg3)) :=
  fun i => scale_of_word _ (congrFun (h c).2.1 i)

theorem pre_s (m : KMem) (h : Cert.Pre_KernelIdeal_tame m) (c : Dev Cert.KernelIdeal.nD) :
    (m ((c.tc : Thread Cert.KernelIdeal.nD Cert.KernelIdeal.τ).loc Cert.KernelIdeal.main_arg8) : IVec Cert.KernelIdeal.S_ 32) ix0 ≠ 0#32 :=
  step_of_word _ (congrFun (h c).2.2 ix0)

/-! ## The results agree -/

section
variable (m : KMem) (m' : RMem) (c : Dev Cert.KernelIdeal.nD)

/-- The two memories hold the same arguments on a device. -/
structure SameArgs : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (hp : Cert.Pre_KernelIdeal_tame m) (e : SameArgs m m' c)
include hp e

theorem same_grad : oGrad m' c = kGrad m c := by
  unfold oGrad kGrad
  rw [e.a0, e.a1, e.a2, e.a3, e.a4]
  exact (grad_eq _ _ _ _ _ (pre_x m hp c) (pre_d m hp c)).symm

theorem same_norm : rNorm (oGrad m' c) = kNorm m c := by
  rw [same_grad m m' c hp e]
  exact (norm_eq _).symm

theorem same_gc : oGC m' c = rGC (kGrad m c) (rClip (kNorm m c) (m ((c.tc : Thread Cert.KernelIdeal.nD Cert.KernelIdeal.τ).loc Cert.KernelIdeal.main_arg9))) := by
  unfold oGC
  rw [same_norm m m' c hp e, same_grad m m' c hp e, e.a9]

theorem same_mn : oMN m' c = kMN m c := by
  unfold oMN kMN kScal
  rw [same_gc m m' c hp e, e.a6]
  exact (mn_eq _ _ _ _ _).symm

theorem same_vn : oVN m' c = kVN m c := by
  unfold oVN kVN kScal
  rw [same_gc m m' c hp e, e.a7]
  exact (vn_eq _ _ _ _ _).symm

theorem same_wd : oWD m' c = kWD m c := by
  unfold oWD oMN oVN kWD kScal
  rw [same_gc m m' c hp e, e.a5, e.a6, e.a7, e.a8]
  exact (wd_eq _ _ _ _ _ _ _ (pre_s m hp c)).symm

theorem same_wn : oWN m' c = kWN m c := by
  unfold oWN oWD oMN oVN kWN kScal
  rw [same_gc m m' c hp e, e.a5, e.a6, e.a7, e.a8]
  exact (wn_eq _ _ _ _ _ _ _ (pre_s m hp c)).symm

theorem same_hist : oHist m' c = kHist m c := by
  unfold oHist kHist
  rw [same_wn m m' c hp e, e.a10, max_eq]
  rfl

theorem same_exp : oExp m' c = kExp m c := by
  unfold oExp kExp
  rw [same_hist m m' c hp e]
  rfl

theorem same_codes : rCodes (rPow (Host.negf (oExp m' c))) (oWN m' c) = CODES (pow2Of (Host.negf (kExp m c))) (kWN m c) := by
  rw [same_exp m m' c hp e, same_wn m m' c hp e]
  exact (codes_eq _ _).symm

theorem same_codes_t : rCodesT (rCodes (rPow (Host.negf (oExp m' c))) (oWN m' c)) = CODEST (pow2Of (Host.negf (kExp m c))) (kWN m c) := by
  rw [same_exp m m' c hp e, same_wn m m' c hp e]
  exact (codes_t_eq _ _).symm

theorem same_scale : rPow (oExp m' c) = pow2Of (kExp m c) := by
  rw [same_exp m m' c hp e]
  rfl

end

/-! ## The claim -/

theorem algebraic : Cert.algebraic_KernelIdeal_ReferenceIdeal_pre_tame := by
  intro m g m' g' hp hargs
  have e : ∀ c, SameArgs m m' c := fun c => by
    obtain ⟨h0, h1, h2, h3, h4, h5, h6, h7, h8, h9, h10⟩ := hargs c
    exact ⟨h0, h1, h2, h3, h4, h5, h6, h7, h8, h9, h10⟩
  refine ⟨fun c => kGrad m c, fun c => kNorm m c, fun c => kWN m c, fun c => kWD m c, fun c => kMN m c, fun c => kVN m c,
    fun c => CODES (pow2Of (Host.negf (kExp m c))) (kWN m c), fun c => CODEST (pow2Of (Host.negf (kExp m c))) (kWN m c),
    fun c => pow2Of (kExp m c), fun c => kHist m c, ?_, ?_⟩
  · refine (θ_run _ _ _).mono (fun r h c => ?_) (Cert.KernelIdeal.Hand.run m g)
    have R : ∀ (b : Ref Cert.KernelIdeal.sig .tc), ¬ (Proc.devRef .tc b : DevRef Cert.KernelIdeal.τ Cert.KernelIdeal.sig).isScoped →
        r.2.mem ((c.tc : Thread Cert.KernelIdeal.nD Cert.KernelIdeal.τ).loc b) = Cert.KernelIdeal.Gen.W8 m g c (Proc.devRef .tc b) :=
      fun b hb => h c _ (Cert.KernelIdeal.Gen.mem_uc b hb)
    exact ⟨(R _ (by decide)).trans (out_grad m g c), (R _ (by decide)).trans (out_norm m g c), (R _ (by decide)).trans (out_WN m g c),
      (R _ (by decide)).trans (out_WD m g c), (R _ (by decide)).trans (out_MN m g c), (R _ (by decide)).trans (out_VN m g c),
      (R _ (by decide)).trans (out_codes m g c), (R _ (by decide)).trans (out_codes_t m g c), (R _ (by decide)).trans (out_scale m g c),
      (R _ (by decide)).trans (out_hist m g c),
      (R _ (by decide)).trans (Cert.KernelIdeal.Gen.W8_main_arg0 m g c), (R _ (by decide)).trans (Cert.KernelIdeal.Gen.W8_main_arg1 m g c),
      (R _ (by decide)).trans (Cert.KernelIdeal.Gen.W8_main_arg2 m g c), (R _ (by decide)).trans (Cert.KernelIdeal.Gen.W8_main_arg3 m g c),
      (R _ (by decide)).trans (Cert.KernelIdeal.Gen.W8_main_arg4 m g c), (R _ (by decide)).trans (Cert.KernelIdeal.Gen.W8_main_arg5 m g c),
      (R _ (by decide)).trans (Cert.KernelIdeal.Gen.W8_main_arg6 m g c), (R _ (by decide)).trans (Cert.KernelIdeal.Gen.W8_main_arg7 m g c),
      (R _ (by decide)).trans (Cert.KernelIdeal.Gen.W8_main_arg8 m g c), (R _ (by decide)).trans (Cert.KernelIdeal.Gen.W8_main_arg9 m g c),
      (R _ (by decide)).trans (Cert.KernelIdeal.Gen.W8_main_arg10 m g c)⟩
  · refine (θ_run _ _ _).mono (fun r h c => ?_) (Cert.ReferenceIdeal.Hand.run_formulas m' g')
    obtain ⟨h0, h1, h2, h3, h4, h5, h6, h7, h8, h9, ha⟩ := h c
    exact ⟨h0.trans (same_grad m m' c hp (e c)), h1.trans (same_norm m m' c hp (e c)), h2.trans (same_wn m m' c hp (e c)),
      h3.trans (same_wd m m' c hp (e c)), h4.trans (same_mn m m' c hp (e c)), h5.trans (same_vn m m' c hp (e c)),
      h6.trans (same_codes m m' c hp (e c)), h7.trans (same_codes_t m m' c hp (e c)), h8.trans (same_scale m m' c hp (e c)),
      h9.trans (same_hist m m' c hp (e c)), ha⟩

end Cert.Hand

end
-- ==== Proof.lean ====
/- The claims, proved: the three frames, with and without the precondition, the step from the kernel's words to the
   extended reals, and the equality of the kernel's results with the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Run
public import proofs.«01_k».proof.Proof.Gen.Pre_tame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    Cert.Hand.algebraic⟩

end Cert.Proof

end
